-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_maxima_and_actions_in_range [hPre_finite_row_maxima_and_actions_in_range : Cert.Pre_finite_row_maxima_and_actions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_maxima_and_actions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_maxima_and_actions_in_range [hPre_finite_row_maxima_and_actions_in_range : Cert.Pre_finite_row_maxima_and_actions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_maxima_and_actions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_row_maxima_and_actions_in_range [hKernelIdeal : Cert.KernelIdeal.Facts] [hPre_finite_row_maxima_and_actions_in_range : Cert.Pre_finite_row_maxima_and_actions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_maxima_and_actions_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_row_maxima_and_actions_in_range [hReferenceIdeal : Cert.ReferenceIdeal.Facts] [hPre_finite_row_maxima_and_actions_in_range : Cert.Pre_finite_row_maxima_and_actions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_maxima_and_actions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_row_maxima_and_actions_in_range [hKernelIdeal : Cert.KernelIdeal.Facts] [hReferenceIdeal : Cert.ReferenceIdeal.Facts] [hPre_finite_row_maxima_and_actions_in_range : Cert.Pre_finite_row_maxima_and_actions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_maxima_and_actions_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_row_maxima_and_actions_in_range : Cert.Pre_finite_row_maxima_and_actions_in_range.Facts),
    quiescent_Kernel (hKernel := hKernel)
    ∧ quiescent_KernelIdeal (hKernelIdeal := hKernelIdeal)
    ∧ quiescent_KernelIdeal_pre_finite_row_maxima_and_actions_in_range (hKernelIdeal := hKernelIdeal) (hPre_finite_row_maxima_and_actions_in_range := hPre_finite_row_maxima_and_actions_in_range)
    ∧ quiescent_ReferenceIdeal (hReferenceIdeal := hReferenceIdeal)
    ∧ quiescent_ReferenceIdeal_pre_finite_row_maxima_and_actions_in_range (hReferenceIdeal := hReferenceIdeal) (hPre_finite_row_maxima_and_actions_in_range := hPre_finite_row_maxima_and_actions_in_range)
    ∧ preserves_Kernel_KernelIdeal
    ∧ algebraic_KernelIdeal_ReferenceIdeal_pre_finite_row_maxima_and_actions_in_range (hKernelIdeal := hKernelIdeal) (hReferenceIdeal := hReferenceIdeal) (hPre_finite_row_maxima_and_actions_in_range := hPre_finite_row_maxima_and_actions_in_range)
-- ==== Pre_finite_row_maxima_and_actions_in_range.lean ====
abbrev S32x1000000 : Shape := ⟨2, ![32, 1000000]⟩
abbrev S32x1 : Shape := ⟨2, ![32, 1]⟩
abbrev S_ : Shape := ⟨0, ![]⟩
abbrev S32 : Shape := ⟨1, ![32]⟩

class Facts : Prop where
  reducesTo_S32x1000000_S32_d1 : S32x1000000.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)

variable [Facts]

def fn {F : FTy → Type} [FloatOps F] (main_arg0 : FVec F S32x1000000 .f32) (main_arg1 : IVec S32x1 32) : IVec S32x1 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_v1 : FVec F S32x1 .f32 := broadcastInDim S32x1 ![0] bcast_S32_S32x1_0 main_v0
  let main_cst_0 : FVec F S_ .f32 := constant S_ .f32 0xFF800000#32
  let main_v2 : FVec F S32x1 .f32 := broadcastInDim S32x1 ![] bcast_S_S32x1 main_cst_0
  let main_v3 : IVec S32x1 1 := cmpf .ogt main_v1 main_v2
  let main_cst_1 : FVec F S_ .f32 := constant S_ .f32 0x7F800000#32
  let main_v4 : FVec F S32x1 .f32 := broadcastInDim S32x1 ![] bcast_S_S32x1 main_cst_1
  let main_v5 : IVec S32x1 1 := cmpf .olt main_v1 main_v4
  let main_v6 : IVec S32x1 1 := andi main_v3 main_v5
  let main_c : IVec S_ 32 := constantI S_ 32 0#32
  let main_v7 : IVec S32x1 32 := broadcastInDim S32x1 ![] bcast_S_S32x1 main_c
  let main_v8 : IVec S32x1 1 := cmpi .sge main_arg1 main_v7
  let main_c_2 : IVec S_ 32 := constantI S_ 32 1000000#32
  let main_v9 : IVec S32x1 32 := broadcastInDim S32x1 ![] bcast_S_S32x1 main_c_2
  let main_v10 : IVec S32x1 1 := cmpi .slt main_arg1 main_v9
  let main_v11 : IVec S32x1 1 := andi main_v8 main_v10
  let main_v12 : IVec S32x1 1 := andi main_v6 main_v11
  main_v12
-- ==== Kernel.lean ====
abbrev S32x1000000 : Shape := ⟨2, ![32, 1000000]⟩
abbrev S32x1 : Shape := ⟨2, ![32, 1]⟩
abbrev S32x16384 : Shape := ⟨2, ![32, 16384]⟩
abbrev S32x256 : Shape := ⟨2, ![32, 256]⟩
abbrev S32 : Shape := ⟨1, ![32]⟩

abbrev nBuf : Space → Nat
  | .hbm => 5
  | .vmem => 13
  | .smem => 0
  | _ => 0

abbrev bufTy : (tb : Table) → Fin (tcTables nBuf tb) → BufTy
  | .hbm, ⟨0, _⟩ => ⟨S32x1000000, .f32⟩
  | .hbm, ⟨1, _⟩ => ⟨S32x1, .i32⟩
  | .hbm, ⟨2, _⟩ => ⟨S32x1, .i32⟩
  | .hbm, ⟨3, _⟩ => ⟨S32x1, .f32⟩
  | .hbm, ⟨4, _⟩ => ⟨S32x1, .i32⟩
  | .local _ .vmem, ⟨0, _⟩ => ⟨S32x1, .i32⟩
  | .local _ .vmem, ⟨1, _⟩ => ⟨S32x16384, .f32⟩
  | .local _ .vmem, ⟨2, _⟩ => ⟨S32x16384, .f32⟩
  | .local _ .vmem, ⟨3, _⟩ => ⟨S32x1, .i32⟩
  | .local _ .vmem, ⟨4, _⟩ => ⟨S32x1, .f32⟩
  | .local _ .vmem, ⟨5, _⟩ => ⟨S32x1, .i32⟩
  | .local _ .vmem, ⟨6, _⟩ => ⟨S32x256, .i32⟩
  | .local _ .vmem, ⟨7, _⟩ => ⟨S32x256, .f32⟩
  | .local _ .vmem, ⟨8, _⟩ => ⟨S32x256, .f32⟩
  | .local _ .vmem, ⟨9, _⟩ => ⟨S32x256, .i32⟩
  | .local _ .vmem, ⟨10, _⟩ => ⟨S32x256, .f32⟩
  | .local _ .vmem, ⟨11, _⟩ => ⟨S32x256, .i32⟩
  | .local _ .vmem, ⟨12, _⟩ => ⟨S32x256, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![62], ![false]⟩

def k0_cond4 (i : grid0.Coords) : BitVec 1 :=
  let arg0 : BitVec 32 := BitVec.ofNat 32 (i 0).val
  let c61_i32_10 : BitVec 32 := 61#32
  let v14 : BitVec 1 := Scalar.cmpi .eq arg0 c61_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x1000000 : Shape := ⟨2, ![32, 1000000]⟩
abbrev S32x1 : Shape := ⟨2, ![32, 1]⟩
abbrev S_ : Shape := ⟨0, ![]⟩
abbrev S32 : Shape := ⟨1, ![32]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 301
  | .vmem => 0
  | .smem => 0
  | _ => 0

abbrev hbmTy0_0 (i : Nat) : BufTy := match i % 128 with
  | 0 => ⟨S32x1000000, .f32⟩
  | 1 => ⟨S32x1, .i32⟩
  | 2 => ⟨S_, .f32⟩
  | 3 => ⟨S32, .f32⟩
  | 4 => ⟨S_, .f32⟩
  | 5 => ⟨S32, .f32⟩
  | 6 => ⟨S32, .f32⟩
  | 7 => ⟨S32x1, .f32⟩
  | 8 => ⟨S32x1000000, .f32⟩
  | 9 => ⟨S32x1000000, .f32⟩
  | 10 => ⟨S32x1000000, .f32⟩
  | 11 => ⟨S_, .f32⟩
  | 12 => ⟨S32, .f32⟩
  | 13 => ⟨S32x1, .f32⟩
  | 14 => ⟨S32x1, .f32⟩
  | 15 => ⟨S32x1000000, .f32⟩
  | 16 => ⟨S32x1000000, .f32⟩
  | 17 => ⟨S32x1000000, .f32⟩
  | 18 => ⟨S32x1000000, .i32⟩
  | 19 => ⟨S_, .i32⟩
  | 20 => ⟨S32x1000000, .i32⟩
  | 21 => ⟨S32x1000000, .i32⟩
  | 22 => ⟨S32x1000000, .i32⟩
  | 23 => ⟨S32x1000000, .i32⟩
  | 24 => ⟨S_, .i32⟩
  | 25 => ⟨S32x1000000, .i32⟩
  | 26 => ⟨S_, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_1 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S_, .i32⟩
  | 8 => ⟨S32x1000000, .i32⟩
  | 9 => ⟨S32x1000000, .i32⟩
  | 10 => ⟨S_, .i32⟩
  | 11 => ⟨S32x1000000, .i32⟩
  | 12 => ⟨S32x1000000, .i32⟩
  | 13 => ⟨S32x1000000, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S_, .i32⟩
  | 20 => ⟨S32x1000000, .i32⟩
  | 21 => ⟨S32x1000000, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S_, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S32x1000000, .f32⟩
  | 122 => ⟨S_, .f32⟩
  | 123 => ⟨S32x1000000, .f32⟩
  | 124 => ⟨S32x1000000, .f32⟩
  | 125 => ⟨S_, .f32⟩
  | 126 => ⟨S32x1000000, .f32⟩
  | 127 => ⟨S32x1000000, .f32⟩
  | _ => ⟨S32x1000000, .f32⟩

abbrev hbmTy0_2 (i : Nat) : BufTy := match i % 128 with
  | 0 => ⟨S_, .f32⟩
  | 1 => ⟨S32x1000000, .f32⟩
  | 2 => ⟨S32x1000000, .f32⟩
  | 3 => ⟨S32x1000000, .f32⟩
  | 4 => ⟨S32x1000000, .f32⟩
  | 5 => ⟨S32x1000000, .f32⟩
  | 6 => ⟨S32x1000000, .f32⟩
  | 7 => ⟨S32x1000000, .f32⟩
  | 8 => ⟨S32x1000000, .i32⟩
  | 9 => ⟨S_, .f32⟩
  | 10 => ⟨S_, .i32⟩
  | 11 => ⟨S32, .f32⟩
  | 12 => ⟨S32, .i32⟩
  | 13 => ⟨S32x1, .i32⟩
  | 14 => ⟨S_, .i32⟩
  | 15 => ⟨S32x1, .i32⟩
  | 16 => ⟨S32x1, .i1⟩
  | 17 => ⟨S_, .i32⟩
  | 18 => ⟨S32x1, .i32⟩
  | 19 => ⟨S32x1, .i32⟩
  | 20 => ⟨S32x1, .i32⟩
  | 21 => ⟨S32x1x1, .i32⟩
  | 22 => ⟨S1, .i32⟩
  | 23 => ⟨S_, .i32⟩
  | 24 => ⟨S32x1x1, .i32⟩
  | 25 => ⟨S32x1x1, .i1⟩
  | 26 => ⟨S1x1x1, .i32⟩
  | 27 => ⟨S32x1x1, .i32⟩
  | 28 => ⟨S32x1x1, .i1⟩
  | 29 => ⟨S32x1x1, .i1⟩
  | 30 => ⟨S_, .i1⟩
  | 31 => ⟨S32x1, .i1⟩
  | 32 => ⟨S32x1, .f32⟩
  | 33 => ⟨S_, .f32⟩
  | 34 => ⟨S32x1, .f32⟩
  | 35 => ⟨S32x1, .f32⟩
  | 36 => ⟨S_, .f32⟩
  | 37 => ⟨S32, .f32⟩
  | 38 => ⟨S32x1, .f32⟩
  | 39 => ⟨S32x1000000, .i32⟩
  | 40 => ⟨S_, .f32⟩
  | 41 => ⟨S_, .i32⟩
  | 42 => ⟨S32, .f32⟩
  | 43 => ⟨S32, .i32⟩
  | 44 => ⟨S32x1, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_v2 : Ref sig .tc := ⟨.hbm, 35, rfl⟩
abbrev main_call1_c_0 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_c_1 : Ref sig .tc := ⟨.hbm, 42, rfl⟩
abbrev main_call1_v8 : Ref sig .tc := ⟨.hbm, 43, rfl⟩
abbrev main_call1_v9 : Ref sig .tc := ⟨.hbm, 44, rfl⟩
abbrev main_call1_c_2 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_c_3 : Ref sig .tc := ⟨.hbm, 51, rfl⟩
abbrev main_call1_v15 : Ref sig .tc := ⟨.hbm, 52, rfl⟩
abbrev main_call1_v16 : Ref sig .tc := ⟨.hbm, 53, rfl⟩
abbrev main_call1_c_4 : Ref sig .tc := ⟨.hbm, 54, rfl⟩
abbrev main_call1_v17 : Ref sig .tc := ⟨.hbm, 55, rfl⟩
abbrev main_call1_v18 : Ref sig .tc := ⟨.hbm, 56, rfl⟩
abbrev main_call1_v19 : Ref sig .tc := ⟨.hbm, 57, rfl⟩
abbrev main_call1_v20 : Ref sig .tc := ⟨.hbm, 58, rfl⟩
abbrev main_v12_0 : Ref sig .tc := ⟨.hbm, 59, rfl⟩
abbrev main_call1_c_5 : Ref sig .tc := ⟨.hbm, 60, rfl⟩
abbrev main_call1_v22 : Ref sig .tc := ⟨.hbm, 61, rfl⟩
abbrev main_call1_v23 : Ref sig .tc := ⟨.hbm, 62, rfl⟩
abbrev main_call1_c_6 : Ref sig .tc := ⟨.hbm, 63, rfl⟩
abbrev main_call1_v24 : Ref sig .tc := ⟨.hbm, 64, rfl⟩
abbrev main_call1_v25 : Ref sig .tc := ⟨.hbm, 65, rfl⟩
abbrev main_call1_v26 : Ref sig .tc := ⟨.hbm, 66, rfl⟩
abbrev main_v12_1 : Ref sig .tc := ⟨.hbm, 67, rfl⟩
abbrev main_c_3 : Ref sig .tc := ⟨.hbm, 68, rfl⟩
abbrev main_v13 : Ref sig .tc := ⟨.hbm, 69, rfl⟩
abbrev main_v14 : Ref sig .tc := ⟨.hbm, 70, rfl⟩
abbrev main_c_4 : Ref sig .tc := ⟨.hbm, 71, rfl⟩
abbrev main_v15 : Ref sig .tc := ⟨.hbm, 72, rfl⟩
abbrev main_v16 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_v2 : Ref sig .tc := ⟨.hbm, 77, rfl⟩
abbrev main_call2_c_0 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_c_1 : Ref sig .tc := ⟨.hbm, 84, rfl⟩
abbrev main_call2_v8 : Ref sig .tc := ⟨.hbm, 85, rfl⟩
abbrev main_call2_v9 : Ref sig .tc := ⟨.hbm, 86, rfl⟩
abbrev main_call2_c_2 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_c_3 : Ref sig .tc := ⟨.hbm, 93, rfl⟩
abbrev main_call2_v15 : Ref sig .tc := ⟨.hbm, 94, rfl⟩
abbrev main_call2_v16 : Ref sig .tc := ⟨.hbm, 95, rfl⟩
abbrev main_call2_c_4 : Ref sig .tc := ⟨.hbm, 96, rfl⟩
abbrev main_call2_v17 : Ref sig .tc := ⟨.hbm, 97, rfl⟩
abbrev main_call2_v18 : Ref sig .tc := ⟨.hbm, 98, rfl⟩
abbrev main_call2_v19 : Ref sig .tc := ⟨.hbm, 99, rfl⟩
abbrev main_call2_v20 : Ref sig .tc := ⟨.hbm, 100, rfl⟩
abbrev main_v17_0 : Ref sig .tc := ⟨.hbm, 101, rfl⟩
abbrev main_call2_c_5 : Ref sig .tc := ⟨.hbm, 102, rfl⟩
abbrev main_call2_v22 : Ref sig .tc := ⟨.hbm, 103, rfl⟩
abbrev main_call2_v23 : Ref sig .tc := ⟨.hbm, 104, rfl⟩
abbrev main_call2_c_6 : Ref sig .tc := ⟨.hbm, 105, rfl⟩
abbrev main_call2_v24 : Ref sig .tc := ⟨.hbm, 106, rfl⟩
abbrev main_call2_v25 : Ref sig .tc := ⟨.hbm, 107, rfl⟩
abbrev main_call2_v26 : Ref sig .tc := ⟨.hbm, 108, rfl⟩
abbrev main_v17_1 : Ref sig .tc := ⟨.hbm, 109, rfl⟩
abbrev main_c_5 : Ref sig .tc := ⟨.hbm, 110, rfl⟩
abbrev main_v18 : Ref sig .tc := ⟨.hbm, 111, rfl⟩
abbrev main_v19 : Ref sig .tc := ⟨.hbm, 112, rfl⟩
abbrev main_c_6 : Ref sig .tc := ⟨.hbm, 113, rfl⟩
abbrev main_v20 : Ref sig .tc := ⟨.hbm, 114, rfl⟩
abbrev main_v21 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_v2 : Ref sig .tc := ⟨.hbm, 119, rfl⟩
abbrev main_call3_c_0 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_v7 : Ref sig .tc := ⟨.hbm, 125, rfl⟩
abbrev main_call3_c_1 : Ref sig .tc := ⟨.hbm, 126, rfl⟩
abbrev main_call3_v8 : Ref sig .tc := ⟨.hbm, 127, rfl⟩
abbrev main_call3_v9 : Ref sig .tc := ⟨.hbm, 128, rfl⟩
abbrev main_call3_c_2 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_c_3 : Ref sig .tc := ⟨.hbm, 135, rfl⟩
abbrev main_call3_v15 : Ref sig .tc := ⟨.hbm, 136, rfl⟩
abbrev main_call3_v16 : Ref sig .tc := ⟨.hbm, 137, rfl⟩
abbrev main_call3_c_4 : Ref sig .tc := ⟨.hbm, 138, rfl⟩
abbrev main_call3_v17 : Ref sig .tc := ⟨.hbm, 139, rfl⟩
abbrev main_call3_v18 : Ref sig .tc := ⟨.hbm, 140, rfl⟩
abbrev main_call3_v19 : Ref sig .tc := ⟨.hbm, 141, rfl⟩
abbrev main_call3_v20 : Ref sig .tc := ⟨.hbm, 142, rfl⟩
abbrev main_v22_0 : Ref sig .tc := ⟨.hbm, 143, rfl⟩
abbrev main_call3_c_5 : Ref sig .tc := ⟨.hbm, 144, rfl⟩
abbrev main_call3_v22 : Ref sig .tc := ⟨.hbm, 145, rfl⟩
abbrev main_call3_v23 : Ref sig .tc := ⟨.hbm, 146, rfl⟩
abbrev main_call3_c_6 : Ref sig .tc := ⟨.hbm, 147, rfl⟩
abbrev main_call3_v24 : Ref sig .tc := ⟨.hbm, 148, rfl⟩
abbrev main_call3_v25 : Ref sig .tc := ⟨.hbm, 149, rfl⟩
abbrev main_call3_v26 : Ref sig .tc := ⟨.hbm, 150, rfl⟩
abbrev main_v22_1 : Ref sig .tc := ⟨.hbm, 151, rfl⟩
abbrev main_c_7 : Ref sig .tc := ⟨.hbm, 152, rfl⟩
abbrev main_v23 : Ref sig .tc := ⟨.hbm, 153, rfl⟩
abbrev main_v24 : Ref sig .tc := ⟨.hbm, 154, rfl⟩
abbrev main_c_8 : Ref sig .tc := ⟨.hbm, 155, rfl⟩
abbrev main_v25 : Ref sig .tc := ⟨.hbm, 156, rfl⟩
abbrev main_v26 : Ref sig .tc := ⟨.hbm, 157, rfl⟩
abbrev main_call4_v0 : Ref sig .tc := ⟨.hbm, 158, rfl⟩
abbrev main_call4_c : Ref sig .tc := ⟨.hbm, 159, rfl⟩
abbrev main_call4_v1 : Ref sig .tc := ⟨.hbm, 160, rfl⟩
abbrev main_call4_v2 : Ref sig .tc := ⟨.hbm, 161, rfl⟩
abbrev main_call4_c_0 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_c_1 : Ref sig .tc := ⟨.hbm, 168, rfl⟩
abbrev main_call4_v8 : Ref sig .tc := ⟨.hbm, 169, rfl⟩
abbrev main_call4_v9 : Ref sig .tc := ⟨.hbm, 170, rfl⟩
abbrev main_call4_c_2 : Ref sig .tc := ⟨.hbm, 171, rfl⟩
abbrev main_call4_v10 : Ref sig .tc := ⟨.hbm, 172, rfl⟩
abbrev main_call4_v11 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_call4_c_3 : Ref sig .tc := ⟨.hbm, 177, rfl⟩
abbrev main_call4_v15 : Ref sig .tc := ⟨.hbm, 178, rfl⟩
abbrev main_call4_v16 : Ref sig .tc := ⟨.hbm, 179, rfl⟩
abbrev main_call4_c_4 : Ref sig .tc := ⟨.hbm, 180, rfl⟩
abbrev main_call4_v17 : Ref sig .tc := ⟨.hbm, 181, rfl⟩
abbrev main_call4_v18 : Ref sig .tc := ⟨.hbm, 182, rfl⟩
abbrev main_call4_v19 : Ref sig .tc := ⟨.hbm, 183, rfl⟩
abbrev main_call4_v20 : Ref sig .tc := ⟨.hbm, 184, rfl⟩
abbrev main_v27_0 : Ref sig .tc := ⟨.hbm, 185, rfl⟩
abbrev main_call4_c_5 : Ref sig .tc := ⟨.hbm, 186, rfl⟩
abbrev main_call4_v22 : Ref sig .tc := ⟨.hbm, 187, rfl⟩
abbrev main_call4_v23 : Ref sig .tc := ⟨.hbm, 188, rfl⟩
abbrev main_call4_c_6 : Ref sig .tc := ⟨.hbm, 189, rfl⟩
abbrev main_call4_v24 : Ref sig .tc := ⟨.hbm, 190, rfl⟩
abbrev main_call4_v25 : Ref sig .tc := ⟨.hbm, 191, rfl⟩
abbrev main_call4_v26 : Ref sig .tc := ⟨.hbm, 192, rfl⟩
abbrev main_v27_1 : Ref sig .tc := ⟨.hbm, 193, rfl⟩
abbrev main_c_9 : Ref sig .tc := ⟨.hbm, 194, rfl⟩
abbrev main_v28 : Ref sig .tc := ⟨.hbm, 195, rfl⟩
abbrev main_v29 : Ref sig .tc := ⟨.hbm, 196, rfl⟩
abbrev main_c_10 : Ref sig .tc := ⟨.hbm, 197, rfl⟩
abbrev main_v30 : Ref sig .tc := ⟨.hbm, 198, rfl⟩
abbrev main_v31 : Ref sig .tc := ⟨.hbm, 199, rfl⟩
abbrev main_call5_v0 : Ref sig .tc := ⟨.hbm, 200, rfl⟩
abbrev main_call5_c : Ref sig .tc := ⟨.hbm, 201, rfl⟩
abbrev main_call5_v1 : Ref sig .tc := ⟨.hbm, 202, rfl⟩
abbrev main_call5_v2 : Ref sig .tc := ⟨.hbm, 203, rfl⟩
abbrev main_call5_c_0 : Ref sig .tc := ⟨.hbm, 204, rfl⟩
abbrev main_call5_v3 : Ref sig .tc := ⟨.hbm, 205, rfl⟩
abbrev main_call5_v4 : Ref sig .tc := ⟨.hbm, 206, rfl⟩
abbrev main_call5_v5 : Ref sig .tc := ⟨.hbm, 207, rfl⟩
abbrev main_call5_v6 : Ref sig .tc := ⟨.hbm, 208, rfl⟩
abbrev main_call5_v7 : Ref sig .tc := ⟨.hbm, 209, rfl⟩
abbrev main_call5_c_1 : Ref sig .tc := ⟨.hbm, 210, rfl⟩
abbrev main_call5_v8 : Ref sig .tc := ⟨.hbm, 211, rfl⟩
abbrev main_call5_v9 : Ref sig .tc := ⟨.hbm, 212, rfl⟩
abbrev main_call5_c_2 : Ref sig .tc := ⟨.hbm, 213, rfl⟩
abbrev main_call5_v10 : Ref sig .tc := ⟨.hbm, 214, rfl⟩
abbrev main_call5_v11 : Ref sig .tc := ⟨.hbm, 215, rfl⟩
abbrev main_call5_v12 : Ref sig .tc := ⟨.hbm, 216, rfl⟩
abbrev main_call5_v13 : Ref sig .tc := ⟨.hbm, 217, rfl⟩
abbrev main_call5_v14 : Ref sig .tc := ⟨.hbm, 218, rfl⟩
abbrev main_call5_c_3 : Ref sig .tc := ⟨.hbm, 219, rfl⟩
abbrev main_call5_v15 : Ref sig .tc := ⟨.hbm, 220, rfl⟩
abbrev main_call5_v16 : Ref sig .tc := ⟨.hbm, 221, rfl⟩
abbrev main_call5_c_4 : Ref sig .tc := ⟨.hbm, 222, rfl⟩
abbrev main_call5_v17 : Ref sig .tc := ⟨.hbm, 223, rfl⟩
abbrev main_call5_v18 : Ref sig .tc := ⟨.hbm, 224, rfl⟩
abbrev main_call5_v19 : Ref sig .tc := ⟨.hbm, 225, rfl⟩
abbrev main_call5_v20 : Ref sig .tc := ⟨.hbm, 226, rfl⟩
abbrev main_v32_0 : Ref sig .tc := ⟨.hbm, 227, rfl⟩
abbrev main_call5_c_5 : Ref sig .tc := ⟨.hbm, 228, rfl⟩
abbrev main_call5_v22 : Ref sig .tc := ⟨.hbm, 229, rfl⟩
abbrev main_call5_v23 : Ref sig .tc := ⟨.hbm, 230, rfl⟩
abbrev main_call5_c_6 : Ref sig .tc := ⟨.hbm, 231, rfl⟩
abbrev main_call5_v24 : Ref sig .tc := ⟨.hbm, 232, rfl⟩
abbrev main_call5_v25 : Ref sig .tc := ⟨.hbm, 233, rfl⟩
abbrev main_call5_v26 : Ref sig .tc := ⟨.hbm, 234, rfl⟩
abbrev main_v32_1 : Ref sig .tc := ⟨.hbm, 235, rfl⟩
abbrev main_c_11 : Ref sig .tc := ⟨.hbm, 236, rfl⟩
abbrev main_v33 : Ref sig .tc := ⟨.hbm, 237, rfl⟩
abbrev main_v34 : Ref sig .tc := ⟨.hbm, 238, rfl⟩
abbrev main_c_12 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩
abbrev main_c_13 : Ref sig .tc := ⟨.hbm, 243, rfl⟩
abbrev main_v38 : Ref sig .tc := ⟨.hbm, 244, rfl⟩
abbrev main_v39 : Ref sig .tc := ⟨.hbm, 245, rfl⟩
abbrev main_c_14 : Ref sig .tc := ⟨.hbm, 246, rfl⟩
abbrev main_v40 : Ref sig .tc := ⟨.hbm, 247, rfl⟩
abbrev main_v41 : Ref sig .tc := ⟨.hbm, 248, rfl⟩
abbrev main_v42 : Ref sig .tc := ⟨.hbm, 249, rfl⟩
abbrev main_cst : Ref sig .tc := ⟨.hbm, 250, rfl⟩
abbrev main_v43 : Ref sig .tc := ⟨.hbm, 251, rfl⟩
abbrev main_v44 : Ref sig .tc := ⟨.hbm, 252, rfl⟩
abbrev main_cst_15 : Ref sig .tc := ⟨.hbm, 253, rfl⟩
abbrev main_v45 : Ref sig .tc := ⟨.hbm, 254, rfl⟩
abbrev main_v46 : Ref sig .tc := ⟨.hbm, 255, rfl⟩
abbrev main_cst_16 : Ref sig .tc := ⟨.hbm, 256, rfl⟩
abbrev main_v47 : Ref sig .tc := ⟨.hbm, 257, rfl⟩
abbrev main_v48 : Ref sig .tc := ⟨.hbm, 258, rfl⟩
abbrev main_v49 : Ref sig .tc := ⟨.hbm, 259, rfl⟩
abbrev main_v50 : Ref sig .tc := ⟨.hbm, 260, rfl⟩
abbrev main_v51 : Ref sig .tc := ⟨.hbm, 261, rfl⟩
abbrev main_v52 : Ref sig .tc := ⟨.hbm, 262, rfl⟩
abbrev main_v53 : Ref sig .tc := ⟨.hbm, 263, rfl⟩
abbrev main_call6_v0 : Ref sig .tc := ⟨.hbm, 264, rfl⟩
abbrev main_call6_cst : Ref sig .tc := ⟨.hbm, 265, rfl⟩
abbrev main_call6_c : Ref sig .tc := ⟨.hbm, 266, rfl⟩
abbrev main_call6_v1_0 : Ref sig .tc := ⟨.hbm, 267, rfl⟩
abbrev main_v54 : Ref sig .tc := ⟨.hbm, 268, rfl⟩
abbrev main_v55 : Ref sig .tc := ⟨.hbm, 269, rfl⟩
abbrev main_call7_c : Ref sig .tc := ⟨.hbm, 270, rfl⟩
abbrev main_call7_v0 : Ref sig .tc := ⟨.hbm, 271, rfl⟩
abbrev main_call7_v1 : Ref sig .tc := ⟨.hbm, 272, rfl⟩
abbrev main_call7_c_0 : Ref sig .tc := ⟨.hbm, 273, rfl⟩
abbrev main_call7_v2 : Ref sig .tc := ⟨.hbm, 274, rfl⟩
abbrev main_call7_v3 : Ref sig .tc := ⟨.hbm, 275, rfl⟩
abbrev main_call7_v4 : Ref sig .tc := ⟨.hbm, 276, rfl⟩
abbrev main_call7_v5 : Ref sig .tc := ⟨.hbm, 277, rfl⟩
abbrev main_call7_c_1 : Ref sig .tc := ⟨.hbm, 278, rfl⟩
abbrev main_call7_c_2 : Ref sig .tc := ⟨.hbm, 279, rfl⟩
abbrev main_call7_v6 : Ref sig .tc := ⟨.hbm, 280, rfl⟩
abbrev main_call7_v7 : Ref sig .tc := ⟨.hbm, 281, rfl⟩
abbrev main_call7_v8 : Ref sig .tc := ⟨.hbm, 282, rfl⟩
abbrev main_call7_v9 : Ref sig .tc := ⟨.hbm, 283, rfl⟩
abbrev main_call7_v10 : Ref sig .tc := ⟨.hbm, 284, rfl⟩
abbrev main_call7_v11 : Ref sig .tc := ⟨.hbm, 285, rfl⟩
abbrev main_call7_c_3 : Ref sig .tc := ⟨.hbm, 286, rfl⟩
abbrev main_call7_v12 : Ref sig .tc := ⟨.hbm, 287, rfl⟩
abbrev main_call7_v13 : Ref sig .tc := ⟨.hbm, 288, rfl⟩
abbrev main_call7_cst : Ref sig .tc := ⟨.hbm, 289, rfl⟩
abbrev main_call7_v14 : Ref sig .tc := ⟨.hbm, 290, rfl⟩
abbrev main_v56 : Ref sig .tc := ⟨.hbm, 291, rfl⟩
abbrev main_cst_17 : Ref sig .tc := ⟨.hbm, 292, rfl⟩
abbrev main_v57 : Ref sig .tc := ⟨.hbm, 293, rfl⟩
abbrev main_v58 : Ref sig .tc := ⟨.hbm, 294, rfl⟩
abbrev main_call8_v0 : Ref sig .tc := ⟨.hbm, 295, rfl⟩
abbrev main_call8_cst : Ref sig .tc := ⟨.hbm, 296, rfl⟩
abbrev main_call8_c : Ref sig .tc := ⟨.hbm, 297, rfl⟩
abbrev main_call8_v1_0 : Ref sig .tc := ⟨.hbm, 298, rfl⟩
abbrev main_v59 : Ref sig .tc := ⟨.hbm, 299, rfl⟩
abbrev main_v60 : Ref sig .tc := ⟨.hbm, 300, rfl⟩

abbrev nD : Nat := 1
abbrev τ : Topo := Topo.v7x

variable {F : FTy → Type} [FloatOps F]
-- ==== Proof.Body.lean ====
/-
  The kernel's body, folded up.  The printed body spells out 64 chunks of 256 columns and three masked chunks of
  the last block one after the other; here the same program is one `chunk` of vector operations, a recursion over
  the chunks, and the four conditional regions, and `body_eq` says the two are the same program.
-/
module

public import proofs.«01_k».proof.Proof.Gen.KernelIdeal.Points
public import Idealize.ShloMosaic.Lib.Tactic

@[expose] public section

noncomputable section

namespace Cert.KernelIdeal

open Idealize.ShloMosaic Idealize.ShloMosaic.TcCoe Idealize.ShloMosaic.Tactic
open Idealize.SL Idealize.SL.Sem

open Facts₀

variable {F : FTy → Type} [FloatOps F]

/-- What each of the 256 lanes of a row carries from chunk to chunk: the sum of exponentials `s`, the largest logit
`vm` and its counter `vi`, the largest perturbed logit `gm` and its counter `gi`, and the logit `av` at the row's
action. -/
structure Acc (F : FTy → Type) where
  s : FVec F S32x256 .f32
  vm : FVec F S32x256 .f32
  vi : IVec S32x256 32
  gm : FVec F S32x256 .f32
  gi : IVec S32x256 32
  av : FVec F S32x256 .f32

/-- A rotation of every word by `r` to the left (`l = 32 - r`). -/
def rotV (r l : BitVec 32) (x : IVec S32x256 32) : IVec S32x256 32 :=
  ori (shli x (broadcast S32x256 r)) (shrui x (broadcast S32x256 l))

/-- One round of the mixing on a pair of words. -/
def roundV (r l : BitVec 32) (p : IVec S32x256 32 × IVec S32x256 32) : IVec S32x256 32 × IVec S32x256 32 :=
  (addi p.1 p.2, xori (rotV r l p.2) (addi p.1 p.2))

/-- Four rounds with the rotations 13, 15, 26, 6. -/
def roundsA (p : IVec S32x256 32 × IVec S32x256 32) : IVec S32x256 32 × IVec S32x256 32 :=
  roundV 6#32 26#32 (roundV 26#32 6#32 (roundV 15#32 17#32 (roundV 13#32 19#32 p)))

/-- Four rounds with the rotations 17, 29, 16, 24. -/
def roundsB (p : IVec S32x256 32 × IVec S32x256 32) : IVec S32x256 32 × IVec S32x256 32 :=
  roundV 24#32 8#32 (roundV 16#32 16#32 (roundV 29#32 3#32 (roundV 17#32 15#32 p)))

/-- The first four rounds, whose first word is zero so that the first addition is left out. -/
def rounds0 (y : IVec S32x256 32) : IVec S32x256 32 × IVec S32x256 32 :=
  roundV 6#32 26#32 (roundV 26#32 6#32 (roundV 15#32 17#32 (y, xori (rotV 13#32 19#32 y) y)))

/-- A key word added to each of the pair. -/
def keyV (a b : BitVec 32) (p : IVec S32x256 32 × IVec S32x256 32) : IVec S32x256 32 × IVec S32x256 32 :=
  (addi p.1 (broadcast S32x256 a), addi p.2 (broadcast S32x256 b))

/-- The random word of each counter. -/
def wordV (cnt : IVec S32x256 32) : IVec S32x256 32 :=
  let p1 := keyV 42#32 466689009#32 (rounds0 (addi cnt (broadcast S32x256 42#32)))
  let p2 := keyV 466689008#32 2#32 (roundsB p1)
  let q3 := roundsA p2
  let p3 := (q3.1, addi q3.2 (broadcast S32x256 45#32))
  let p4 := keyV 42#32 466689012#32 (roundsB p3)
  let p5 := keyV 466689008#32 5#32 (roundsA p4)
  xori p5.1 p5.2

/-- The noise's `log (-log u)` from each random word. -/
def noiseV (w : IVec S32x256 32) : FVec F S32x256 .f32 :=
  let f : FVec F S32x256 .f32 := bitcastToFloat .f32 (ori (shrui w (broadcast S32x256 9#32)) (broadcast S32x256 1065353216#32))
  let u := addf (subf f (broadcast S32x256 (Scalar.ofBits .f32 0x3F800000#32))) (broadcast S32x256 (Scalar.ofBits .f32 0x00800000#32))
  log (subf (broadcast S32x256 (Scalar.ofBits .f32 0x00000000#32)) (log u))

variable [Facts₀]

/-- One chunk: the counters `cnt`, the logits `x`, the counter `tgt` of the row's action. -/
def chunk (tgt : IVec S32x1 32) (cnt : IVec S32x256 32) (x : FVec F S32x256 .f32) (a : Acc F) : Acc F :=
  let y := subf x (noiseV (wordV cnt))
  { s := addf a.s (exp x)
    vm := select (cmpf .ogt x a.vm) x a.vm
    vi := select (cmpf .ogt x a.vm) cnt a.vi
    gm := select (cmpf .ogt y a.gm) y a.gm
    gi := select (cmpf .ogt y a.gm) cnt a.gi
    av := select (cmpi .eq cnt (broadcastTo S32x256 tgt broadcasts_S32x1_S32x256)) x a.av }

/-- The counters of the chunk that begins at column `base`. -/
def counters (rv : IVec S32x256 32) (base : BitVec 32) : IVec S32x256 32 := addi rv (broadcast S32x256 base)

/-- The logits of the last block's chunk at column `base`, those past the last column replaced by -∞. -/
def masked (base : BitVec 32) (x : FVec F S32x256 .f32) : FVec F S32x256 .f32 :=
  select (cmpi .slt (addi (iota .tc S32x256 32 [1] iota_S32x256_d1_w32) (broadcast S32x256 base)) (broadcast S32x256 1000000#32))
    x (broadcast S32x256 (Scalar.ofBits .f32 0xFF800000#32))

/-- Chunk `c` of a block lies inside it. -/
theorem chunk_inb (c : ℕ) (h : c < 64) : ∀ j, (![0, 256 * c] : Fin 2 → ℕ) j + S32x256.size j ≤ S32x16384.size j := by
  intro j; fin_cases j <;> simp <;> omega

/-- Where chunk `c` lies in a block. -/
def chunkRect (c : ℕ) (h : c < 64) : Rect S32x16384 := Rect.unit (s := S32x16384) ![0, 256 * c] S32x256.size (chunk_inb c h)

set_option quotPrecheck false in
local notation "𝕡" => Prog (TpuEff nD τ sig (Elt F) Λ₀ .tc)

/-- The chunks `c, c + 1, …, c + n - 1` one after the other; `f` says how the logits read are masked. -/
def sweep (arg2 : Memref sig .tc .vmem S32x16384 .f32) (f : BitVec 32 → FVec F S32x256 .f32 → FVec F S32x256 .f32)
    (v3 : BitVec 32) (rv : IVec S32x256 32) (tgt : IVec S32x1 32) : (n c : ℕ) → c + n ≤ 64 → Acc F → 𝕡 (Acc F)
  | 0, _, _, a => pure a
  | n + 1, c, h, a => do
    let x : Vec F S32x256 .f32 ← Prog.lift (.load arg2 (chunkRect c (by omega)).toLoadRect (View.loadsAt_vmem h_S32x256))
    sweep arg2 f v3 rv tgt n (c + 1) (by omega)
      (chunk tgt (counters rv (Scalar.addi v3 (BitVec.ofNat 32 (256 * c)))) (f (Scalar.addi v3 (BitVec.ofNat 32 (256 * c))) x) a)

/-- A read of a whole 32×256 buffer. -/
def ldW {e : EltTy} (a : Memref sig .tc .vmem S32x256 e) : 𝕡 (Vec F S32x256 e) :=
  Prog.lift (.load a (Rect.unit (s := S32x256) ![0, 0] S32x256.size inb_S32x256_S32x256_0_0).toLoadRect (View.loadsAt_vmem h_S32x256))

/-- A write of a whole 32×256 buffer, after a read of it whose value is not used. -/
def stW {e : EltTy} (he : e.bits = 32) (a : Memref sig .tc .vmem S32x256 e) (w : Vec F S32x256 e) : 𝕡 PUnit := do
  let _ ← ldW (F := F) a
  Prog.lift (.store a (Rect.unit (s := S32x256) ![0, 0] S32x256.size inb_S32x256_S32x256_0_0)
    (shapeCast S32x256 w shapeCasts_S32x256_S32x256) Finset.univ (View.stores_vmem_bits_univ h_S32x256 he) (.inl rfl))

/-- A read of a whole 32×1 buffer. -/
def ldC {e : EltTy} (a : Memref sig .tc .vmem S32x1 e) : 𝕡 (Vec F S32x1 e) :=
  Prog.lift (.load a (Rect.unit (s := S32x1) ![0, 0] S32x1.size inb_S32x1_S32x1_0_0).toLoadRect (View.loadsAt_vmem h_S32x1))

/-- A write of a whole 32×1 buffer, after a read of it whose value is not used. -/
def stC {e : EltTy} (he : e.bits = 32) (a : Memref sig .tc .vmem S32x1 e) (w : Vec F S32x1 e) : 𝕡 PUnit := do
  let _ ← ldC (F := F) a
  Prog.lift (.store a (Rect.unit (s := S32x1) ![0, 0] S32x1.size inb_S32x1_S32x1_0_0)
    w Finset.univ (View.stores_vmem_bits_univ h_S32x1 he) (.inl rfl))

/-- The first column of the row bases. -/
def ldB (a : Memref sig .tc .vmem S32x256 .i32) : 𝕡 (Vec F S32x1 .i32) :=
  Prog.lift (.load a (Rect.unit (s := S32x256) ![0, 0] S32x1.size inb_S32x256_S32x1_0_0).toLoadRect (View.loadsAt_vmem h_S32x1))

/-- The six carried buffers. -/
structure Bufs where
  b7 : Memref sig .tc .vmem S32x256 .f32
  b8 : Memref sig .tc .vmem S32x256 .f32
  b9 : Memref sig .tc .vmem S32x256 .i32
  b10 : Memref sig .tc .vmem S32x256 .f32
  b11 : Memref sig .tc .vmem S32x256 .i32
  b12 : Memref sig .tc .vmem S32x256 .f32

/-- The carried values, read from their buffers. -/
def Bufs.get (B : Bufs) : 𝕡 (Acc F) := do
  let s ← ldW B.b7
  let vm ← ldW B.b8
  let vi ← ldW B.b9
  let gm ← ldW B.b10
  let gi ← ldW B.b11
  let av ← ldW B.b12
  pure ⟨s, vm, vi, gm, gi, av⟩

/-- The carried values, written to their buffers. -/
def Bufs.put (B : Bufs) (a : Acc F) : 𝕡 PUnit := do
  stW rfl B.b7 a.s
  stW rfl B.b8 a.vm
  stW rfl B.b9 a.vi
  stW rfl B.b10 a.gm
  stW rfl B.b11 a.gi
  stW rfl B.b12 a.av

/-- The row bases with the lane added: lane `l` of row `r` holds `1000000 r + l`. -/
def rowLanes : IVec S32x256 32 :=
  addi (muli (iota .tc S32x256 32 [0] iota_S32x256_d0_w32) (broadcast S32x256 1000000#32)) (iota .tc S32x256 32 [1] iota_S32x256_d1_w32)

/-- What the carried values are before the first block. -/
def acc0 : Acc F where
  s := broadcast S32x256 (Scalar.ofBits .f32 0x00000000#32)
  vm := broadcast S32x256 (Scalar.ofBits .f32 0xFF800000#32)
  vi := broadcast S32x256 0#32
  gm := broadcast S32x256 (Scalar.ofBits .f32 0xFF800000#32)
  gi := broadcast S32x256 0#32
  av := broadcast S32x256 (Scalar.ofBits .f32 0x00000000#32)

/-- The least counter among the lanes whose value is the row's largest, less the row's base. -/
def winner (v : FVec F S32x256 .f32) (k : IVec S32x256 32) (b : IVec S32x1 32) : IVec S32x1 32 :=
  subi (shapeCast S32x1 (multiReductionI .minsi [1] S32
    (select (cmpf .oeq v (broadcastTo S32x256 (shapeCast S32x1 (multiReduction .maximumf [1] S32 v 0xFF800000#32 reduces_S32x256_S32 (.inl rfl) rfl)
      shapeCasts_S32_S32x1) broadcasts_S32x1_S32x256)) k (broadcast S32x256 2147483647#32))
    2147483647#32 reduces_S32x256_S32 rfl) shapeCasts_S32_S32x1) b

/-- The sum over the lanes of each row. -/
def laneSum (v : FVec F S32x256 .f32) : FVec F S32x1 .f32 :=
  shapeCast S32x1 (multiReduction .add [1] S32 v 0x00000000#32 reduces_S32x256_S32 (.inl rfl) rfl) shapeCasts_S32_S32x1

/-- The last region: the three results from the carried values. -/
def finish (arg3 : Memref sig .tc .vmem S32x1 .i32) (arg4 : Memref sig .tc .vmem S32x1 .f32) (arg5 : Memref sig .tc .vmem S32x1 .i32)
    (arg6 : Memref sig .tc .vmem S32x256 .i32) (B : Bufs) : 𝕡 PUnit := do
  let b ← ldB arg6
  let vm ← ldW B.b8
  let vi ← ldW B.b9
  stC rfl arg5 (winner vm vi b)
  let gm ← ldW B.b10
  let gi ← ldW B.b11
  stC rfl arg3 (winner gm gi b)
  let s ← ldW B.b7
  let av ← ldW B.b12
  stC rfl arg4 (subf (laneSum av) (log (laneSum s)))

/-- Whether grid point `i` is the first, as the body computes it; -/
def atFirst (i : grid0.Coords) : BitVec 1 := Scalar.cmpi .ne (Scalar.extui (Scalar.cmpi .eq (BitVec.ofNat 32 (i 0).val) 0#32) : BitVec 32) 0#32
/-- whether it is before the last; -/
def beforeLast (i : grid0.Coords) : BitVec 1 := Scalar.cmpi .ne (Scalar.extui (Scalar.cmpi .slt (BitVec.ofNat 32 (i 0).val) 61#32) : BitVec 32) 0#32
/-- whether it is the last. -/
def atLast (i : grid0.Coords) : BitVec 1 := Scalar.cmpi .ne (Scalar.extui (Scalar.cmpi .eq (BitVec.ofNat 32 (i 0).val) 61#32) : BitVec 32) 0#32

/-- The whole body at grid point `i`. -/
def body (i : grid0.Coords) (arg1 : Memref sig .tc .vmem S32x1 .i32) (arg2 : Memref sig .tc .vmem S32x16384 .f32)
    (arg3 : Memref sig .tc .vmem S32x1 .i32) (arg4 : Memref sig .tc .vmem S32x1 .f32) (arg5 : Memref sig .tc .vmem S32x1 .i32)
    (arg6 : Memref sig .tc .vmem S32x256 .i32) (B : Bufs) : 𝕡 PUnit := do
  if atFirst i = 1#1 then do
    stW rfl arg6 rowLanes
    B.put acc0
  else do
    pure ⟨⟩
  let rv ← ldW arg6
  let act ← ldC arg1
  let b ← ldB arg6
  if beforeLast i = 1#1 then do
    let a ← B.get
    let a' ← sweep arg2 (fun _ x => x) (Scalar.muli (BitVec.ofNat 32 (i 0).val) 16384#32) rv (addi act b) 64 0 (by omega) a
    B.put a'
  else do
    pure ⟨⟩
  if atLast i = 1#1 then do
    let a ← B.get
    let a' ← sweep arg2 masked (Scalar.muli (BitVec.ofNat 32 (i 0).val) 16384#32) rv (addi act b) 3 0 (by omega) a
    B.put a'
  else do
    pure ⟨⟩
  if k0_cond4 i = 1#1 then do
    finish arg3 arg4 arg5 arg6 B
  else do
    pure ⟨⟩
  pure ⟨⟩

/-- The printed body is this one. -/
theorem body_eq (i : grid0.Coords) (arg1 : Memref sig .tc .vmem S32x1 .i32) (harg1 : arg1.IsWhole) (arg2 : Memref sig .tc .vmem S32x16384 .f32) (harg2 : arg2.IsWhole)
    (arg3 : Memref sig .tc .vmem S32x1 .i32) (harg3 : arg3.IsWhole) (arg4 : Memref sig .tc .vmem S32x1 .f32) (harg4 : arg4.IsWhole)
    (arg5 : Memref sig .tc .vmem S32x1 .i32) (harg5 : arg5.IsWhole) (arg6 : Memref sig .tc .vmem S32x256 .i32) (harg6 : arg6.IsWhole)
    (arg7 : Memref sig .tc .vmem S32x256 .f32) (harg7 : arg7.IsWhole) (arg8 : Memref sig .tc .vmem S32x256 .f32) (harg8 : arg8.IsWhole)
    (arg9 : Memref sig .tc .vmem S32x256 .i32) (harg9 : arg9.IsWhole) (arg10 : Memref sig .tc .vmem S32x256 .f32) (harg10 : arg10.IsWhole)
    (arg11 : Memref sig .tc .vmem S32x256 .i32) (harg11 : arg11.IsWhole) (arg12 : Memref sig .tc .vmem S32x256 .f32) (harg12 : arg12.IsWhole) :
    cc0__body (F := F) i arg1 harg1 arg2 harg2 arg3 harg3 arg4 harg4 arg5 harg5 arg6 harg6 arg7 harg7 arg8 harg8 arg9 harg9 arg10 harg10 arg11 harg11 arg12 harg12
      = body i arg1 arg2 arg3 arg4 arg5 arg6 ⟨arg7, arg8, arg9, arg10, arg11, arg12⟩ := by
  sl_kernel_rfl

end Cert.KernelIdeal
-- ==== Proof.Steps.lean ====
/-
  The memory operations of the body as rules over what the buffers hold: a read of a rectangle gives the rectangle's
  entries, a write of a whole buffer leaves the value written.  From them the rules of the body's pieces: the reads
  and writes of the carried values, a sweep over chunks, the closing region.
-/
module

public import proofs.«01_k».proof.Proof.Body
public import proofs.«01_k».proof.Proof.Gen.KernelIdeal.Frame
public import Idealize.ShloMosaic.Lib.Pipeline.Value

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀

variable {F : FTy → Type} [FloatOps F] [Facts]

local notation "𝕄" => MT nD τ sig Unit (Elt F) ℕ (UR sig nD τ) ℕ

/-- Reading a rectangle of a buffer. -/
theorem wp_read (c : Dev nD) (E : Set ℕ) {s : Shape} {e : EltTy} (a : Memref sig .tc .vmem s e) (r : Rect s)
    (h : a.view.LoadsAt r.toLoadRect) (X : s.Idx → Elt F e) (K : (r.shape.Idx → Elt F e) → sProp 𝕄) :
    iprop(owns (c : Thread nD τ) a fullShare X ∗ (owns (c : Thread nD τ) a fullShare X -∗ K (fun x => X (r.emb x))))
      ⊢ wp frame (wpE (defs₀ (F := F)) Variants.none c none) E (Prog.lift (.load a r.toLoadRect h)) K := by
  unfold owns
  iintro ⟨⟨%f, %hf, H⟩, Hk⟩
  subst hf
  unfold Prog.lift
  ihave H := (wp_load (defs := defs₀ (F := F)) Variants.none (c : Thread nD τ) none E (k := Prog.ret) (Q := K)
    (m := a) (r := r.toLoadRect) (hl := h) (f := f) (q := fullShare) (View.setOn_subset_set _ _)) $$ H
  iapply H
  iintro H
  iapply le_wp_ret
  rw [show View.readAt (Elt F) a.view r.toLoadRect f = fun x => a.view.read (Elt F) f (r.emb x) from rfl]
  iapply Hk
  iexists f
  isplitr
  · ipureintro; rfl
  · iexact H

/-- The rectangle of all of a rank-2 buffer is the whole of it. -/
theorem emb_full {s : Shape} {off : Fin s.rank → ℕ} (h0 : off = fun _ => 0) (inb : ∀ a, off a + s.size a ≤ s.size a) (x : s.Idx) :
    (Rect.unit (s := s) off s.size inb).emb x = x := by
  subst h0; exact Rect.emb_whole_apply s x

/-- Writing all of a buffer. -/
theorem wp_write (c : Dev nD) (E : Set ℕ) {s : Shape} {e : EltTy} (a : Memref sig .tc .vmem s e) {off : Fin s.rank → ℕ}
    (h0 : off = fun _ => 0) (inb : ∀ a, off a + s.size a ≤ s.size a)
    (hx) (hm) (w X : s.Idx → Elt F e) (K : PUnit → sProp 𝕄) :
    iprop(owns (c : Thread nD τ) a fullShare X ∗ (owns (c : Thread nD τ) a fullShare w -∗ K ⟨⟩))
      ⊢ wp frame (wpE (defs₀ (F := F)) Variants.none c none) E
          (Prog.lift (.store a (Rect.unit (s := s) off s.size inb) w Finset.univ hx hm)) K := by
  unfold owns
  iintro ⟨⟨%f, %hf, H⟩, Hk⟩
  unfold Prog.lift
  ihave H := (wp_store (defs := defs₀ (F := F)) Variants.none (c : Thread nD τ) none E (k := Prog.ret) (Q := K)
    (m := a) (r := Rect.unit (s := s) off s.size inb) (w := w) (hx := hx) (hm := hm) (f := f) (View.set_slice_subset _ _)) $$ H
  iapply H
  iintro H
  iapply le_wp_ret
  iapply Hk
  iexists _
  isplitr
  · ipureintro
    exact funext fun x => by
      have := View.read_slice_write_emb (v := a.view) (Rect.unit (s := s) off s.size inb) f w (Finset.mem_univ x)
      rwa [emb_full h0] at this
  · iexact H

theorem zero2 : (![0, 0] : Fin 2 → ℕ) = fun _ => 0 := funext fun a => by fin_cases a <;> rfl

variable (c : Dev nD) (E : Set ℕ)

theorem wp_ldW {e : EltTy} (a : Memref sig .tc .vmem S32x256 e) (X : Vec F S32x256 e) (K : Vec F S32x256 e → sProp 𝕄) :
    iprop(owns (c : Thread nD τ) a fullShare X ∗ (owns (c : Thread nD τ) a fullShare X -∗ K X))
      ⊢ wp frame (wpE (defs₀ (F := F)) Variants.none c none) E (ldW a) K := by
  have h := wp_read (F := F) c E a (Rect.unit (s := S32x256) ![0, 0] S32x256.size inb_S32x256_S32x256_0_0) (View.loadsAt_vmem h_S32x256) X K
  rwa [show (fun x => X ((Rect.unit (s := S32x256) ![0, 0] S32x256.size inb_S32x256_S32x256_0_0).emb x)) = X from
    funext fun x => congrArg X (emb_full (s := S32x256) zero2 _ x)] at h

theorem wp_ldC {e : EltTy} (a : Memref sig .tc .vmem S32x1 e) (X : Vec F S32x1 e) (K : Vec F S32x1 e → sProp 𝕄) :
    iprop(owns (c : Thread nD τ) a fullShare X ∗ (owns (c : Thread nD τ) a fullShare X -∗ K X))
      ⊢ wp frame (wpE (defs₀ (F := F)) Variants.none c none) E (ldC a) K := by
  have h := wp_read (F := F) c E a (Rect.unit (s := S32x1) ![0, 0] S32x1.size inb_S32x1_S32x1_0_0) (View.loadsAt_vmem h_S32x1) X K
  rwa [show (fun x => X ((Rect.unit (s := S32x1) ![0, 0] S32x1.size inb_S32x1_S32x1_0_0).emb x)) = X from
    funext fun x => congrArg X (emb_full (s := S32x1) zero2 _ x)] at h

/-- The first column of a 32×256 value. -/
def firstCol {α : Type} (X : S32x256.Idx → α) : S32x1.Idx → α :=
  fun x => X ((Rect.unit (s := S32x256) ![0, 0] S32x1.size inb_S32x256_S32x1_0_0).emb x)

theorem wp_ldB (a : Memref sig .tc .vmem S32x256 .i32) (X : Vec F S32x256 .i32) (K : Vec F S32x1 .i32 → sProp 𝕄) :
    iprop(owns (c : Thread nD τ) a fullShare X ∗ (owns (c : Thread nD τ) a fullShare X -∗ K (firstCol X)))
      ⊢ wp frame (wpE (defs₀ (F := F)) Variants.none c none) E (ldB a) K :=
  wp_read (F := F) c E a (Rect.unit (s := S32x256) ![0, 0] S32x1.size inb_S32x256_S32x1_0_0) (View.loadsAt_vmem h_S32x1) X K

theorem wp_stW {e : EltTy} (he : e.bits = 32) (a : Memref sig .tc .vmem S32x256 e) (w X : Vec F S32x256 e) (K : PUnit → sProp 𝕄) :
    iprop(owns (c : Thread nD τ) a fullShare X ∗ (owns (c : Thread nD τ) a fullShare w -∗ K ⟨⟩))
      ⊢ wp frame (wpE (defs₀ (F := F)) Variants.none c none) E (stW he a w) K := by
  unfold stW
  rw [wp_bind, shapeCast_self]
  iintro ⟨H, Hk⟩
  iapply (wp_ldW c E a X _)
  isplitl [H]; · iexact H
  iintro H
  iapply (wp_write c E a (s := S32x256) zero2 _ _ _ w X K)
  isplitl [H]; · iexact H
  iexact Hk

theorem wp_stC {e : EltTy} (he : e.bits = 32) (a : Memref sig .tc .vmem S32x1 e) (w X : Vec F S32x1 e) (K : PUnit → sProp 𝕄) :
    iprop(owns (c : Thread nD τ) a fullShare X ∗ (owns (c : Thread nD τ) a fullShare w -∗ K ⟨⟩))
      ⊢ wp frame (wpE (defs₀ (F := F)) Variants.none c none) E (stC he a w) K := by
  unfold stC
  rw [wp_bind]
  iintro ⟨H, Hk⟩
  iapply (wp_ldC c E a X _)
  isplitl [H]; · iexact H
  iintro H
  iapply (wp_write c E a (s := S32x1) zero2 _ _ _ w X K)
  isplitl [H]; · iexact H
  iexact Hk

/-- The six carried buffers hold `a`. -/
def held (B : Bufs) (a : Acc F) : sProp 𝕄 :=
  iprop(owns (c : Thread nD τ) B.b7 fullShare a.s ∗ owns (c : Thread nD τ) B.b8 fullShare a.vm
    ∗ owns (c : Thread nD τ) B.b9 fullShare a.vi ∗ owns (c : Thread nD τ) B.b10 fullShare a.gm
    ∗ owns (c : Thread nD τ) B.b11 fullShare a.gi ∗ owns (c : Thread nD τ) B.b12 fullShare a.av)

theorem wp_get (B : Bufs) (a : Acc F) (K : Acc F → sProp 𝕄) :
    iprop(held c B a ∗ (held c B a -∗ K a))
      ⊢ wp frame (wpE (defs₀ (F := F)) Variants.none c none) E B.get K := by
  unfold Bufs.get held
  simp only [wp_bind]
  iintro ⟨⟨H7, H8, H9, H10, H11, H12⟩, Hk⟩
  iapply wp_ldW; isplitl [H7]; · iexact H7
  iintro H7
  iapply wp_ldW; isplitl [H8]; · iexact H8
  iintro H8
  iapply wp_ldW; isplitl [H9]; · iexact H9
  iintro H9
  iapply wp_ldW; isplitl [H10]; · iexact H10
  iintro H10
  iapply wp_ldW; isplitl [H11]; · iexact H11
  iintro H11
  iapply wp_ldW; isplitl [H12]; · iexact H12
  iintro H12
  iapply le_wp_ret
  iapply Hk
  isplitl [H7]; · iexact H7
  isplitl [H8]; · iexact H8
  isplitl [H9]; · iexact H9
  isplitl [H10]; · iexact H10
  isplitl [H11]; · iexact H11
  iexact H12

theorem wp_put (B : Bufs) (a a' : Acc F) (K : PUnit → sProp 𝕄) :
    iprop(held c B a ∗ (held c B a' -∗ K ⟨⟩))
      ⊢ wp frame (wpE (defs₀ (F := F)) Variants.none c none) E (B.put a') K := by
  unfold Bufs.put held
  simp only [wp_bind]
  iintro ⟨⟨H7, H8, H9, H10, H11, H12⟩, Hk⟩
  iapply wp_stW; isplitl [H7]; · iexact H7
  iintro H7
  iapply wp_stW; isplitl [H8]; · iexact H8
  iintro H8
  iapply wp_stW; isplitl [H9]; · iexact H9
  iintro H9
  iapply wp_stW; isplitl [H10]; · iexact H10
  iintro H10
  iapply wp_stW; isplitl [H11]; · iexact H11
  iintro H11
  iapply wp_stW; isplitl [H12]; · iexact H12
  iintro H12
  iapply Hk
  isplitl [H7]; · iexact H7
  isplitl [H8]; · iexact H8
  isplitl [H9]; · iexact H9
  isplitl [H10]; · iexact H10
  isplitl [H11]; · iexact H11
  iexact H12

/-- The carried values after the chunks `k, …, k + n - 1` whose logits are `xs`. -/
def sweepV (xs : ℕ → FVec F S32x256 .f32) (v3 : BitVec 32) (rv : IVec S32x256 32) (tgt : IVec S32x1 32) :
    (n k : ℕ) → Acc F → Acc F
  | 0, _, a => a
  | n + 1, k, a => sweepV xs v3 rv tgt n (k + 1) (chunk tgt (counters rv (Scalar.addi v3 (BitVec.ofNat 32 (256 * k)))) (xs k) a)

/-- Chunk `k` of a block. -/
def chunkOf (X : Vec F S32x16384 .f32) (k : ℕ) (h : k < 64) : FVec F S32x256 .f32 := fun x => X ((chunkRect k h).emb x)

theorem wp_ldChunk (arg2 : Memref sig .tc .vmem S32x16384 .f32) (X : Vec F S32x16384 .f32) (k : ℕ) (h : k < 64) (hl)
    (K : FVec F S32x256 .f32 → sProp 𝕄) :
    iprop(owns (c : Thread nD τ) arg2 fullShare X ∗ (owns (c : Thread nD τ) arg2 fullShare X -∗ K (chunkOf X k h)))
      ⊢ wp frame (wpE (defs₀ (F := F)) Variants.none c none) E (Prog.lift (.load arg2 (chunkRect k h).toLoadRect hl)) K :=
  wp_read (F := F) c E arg2 (chunkRect k h) hl X K

/-- A sweep computes `sweepV`, if `xs` are the chunks read, masked. -/
theorem wp_sweep (arg2 : Memref sig .tc .vmem S32x16384 .f32) (f : BitVec 32 → FVec F S32x256 .f32 → FVec F S32x256 .f32)
    (v3 : BitVec 32) (rv : IVec S32x256 32) (tgt : IVec S32x1 32) (X : Vec F S32x16384 .f32) (xs : ℕ → FVec F S32x256 .f32) :
    ∀ (n k : ℕ) (h : k + n ≤ 64) (a : Acc F) (K : Acc F → sProp 𝕄)
      (_ : ∀ j (hj : j < 64), k ≤ j → j < k + n →
        f (Scalar.addi v3 (BitVec.ofNat 32 (256 * j))) (chunkOf X j hj) = xs j),
    iprop(owns (c : Thread nD τ) arg2 fullShare X ∗ (owns (c : Thread nD τ) arg2 fullShare X -∗ K (sweepV xs v3 rv tgt n k a)))
      ⊢ wp frame (wpE (defs₀ (F := F)) Variants.none c none) E (sweep arg2 f v3 rv tgt n k h a) K
  | 0, k, h, a, K, hx => by
    iintro ⟨H, Hk⟩
    iapply le_wp_ret
    simp only [sweepV]
    iapply Hk; iexact H
  | n + 1, k, h, a, K, hx => by
    unfold sweep
    rw [wp_bind]
    simp only [sweepV]
    iintro ⟨H, Hk⟩
    iapply (wp_ldChunk c E arg2 X k (by omega) _ _)
    isplitl [H]; · iexact H
    iintro H
    rw [hx k (by omega) le_rfl (by omega)]
    iapply (wp_sweep arg2 f v3 rv tgt X xs n (k + 1) _ _ K (fun j hj h1 h2 => hx j hj (by omega) (by omega)))
    isplitl [H]; · iexact H
    iexact Hk

/-- The closing region leaves the three results. -/
theorem wp_finish (arg3 : Memref sig .tc .vmem S32x1 .i32) (arg4 : Memref sig .tc .vmem S32x1 .f32) (arg5 : Memref sig .tc .vmem S32x1 .i32)
    (arg6 : Memref sig .tc .vmem S32x256 .i32) (B : Bufs) (rv : IVec S32x256 32) (a : Acc F) (X3 : Vec F S32x1 .i32) (X4 : Vec F S32x1 .f32)
    (X5 : Vec F S32x1 .i32) (K : PUnit → sProp 𝕄) :
    iprop((owns (c : Thread nD τ) arg3 fullShare X3 ∗ owns (c : Thread nD τ) arg4 fullShare X4 ∗ owns (c : Thread nD τ) arg5 fullShare X5
          ∗ owns (c : Thread nD τ) arg6 fullShare (Val := Elt F) rv ∗ held c B a)
        ∗ (iprop(owns (c : Thread nD τ) arg3 fullShare (Val := Elt F) (winner a.gm a.gi (firstCol rv))
            ∗ owns (c : Thread nD τ) arg4 fullShare (Val := Elt F) (subf (laneSum a.av) (log (laneSum a.s)))
            ∗ owns (c : Thread nD τ) arg5 fullShare (Val := Elt F) (winner a.vm a.vi (firstCol rv))
            ∗ owns (c : Thread nD τ) arg6 fullShare (Val := Elt F) rv ∗ held c B a) -∗ K ⟨⟩))
      ⊢ wp frame (wpE (defs₀ (F := F)) Variants.none c none) E (finish arg3 arg4 arg5 arg6 B) K := by
  unfold finish held
  simp only [wp_bind]
  iintro ⟨⟨H3, H4, H5, H6, H7, H8, H9, H10, H11, H12⟩, Hk⟩
  iapply wp_ldB; isplitl [H6]; · iexact H6
  iintro H6
  iapply wp_ldW; isplitl [H8]; · iexact H8
  iintro H8
  iapply wp_ldW; isplitl [H9]; · iexact H9
  iintro H9
  iapply wp_stC; isplitl [H5]; · iexact H5
  iintro H5
  iapply wp_ldW; isplitl [H10]; · iexact H10
  iintro H10
  iapply wp_ldW; isplitl [H11]; · iexact H11
  iintro H11
  iapply wp_stC; isplitl [H3]; · iexact H3
  iintro H3
  iapply wp_ldW; isplitl [H7]; · iexact H7
  iintro H7
  iapply wp_ldW; isplitl [H12]; · iexact H12
  iintro H12
  iapply wp_stC; isplitl [H4]; · iexact H4
  iintro H4
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal
-- ==== Proof.BodyRun.lean ====
/-
  What one run of the body does to the buffers, at the first grid point, at a point in between and at the last.
-/
module

public import proofs.«01_k».proof.Proof.Steps

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀

variable {F : FTy → Type} [FloatOps F] [Facts]

local notation "𝕄" => MT nD τ sig Unit (Elt F) ℕ (UR sig nD τ) ℕ

/-- The first column of block `n`, as the body computes it. -/
abbrev blockBase (n : ℕ) : BitVec 32 := Scalar.muli (BitVec.ofNat 32 n) 16384#32

variable (c : Dev nD) (E : Set ℕ) (i : grid0.Coords)
  (arg1 : Memref sig .tc .vmem S32x1 .i32) (arg2 : Memref sig .tc .vmem S32x16384 .f32)
  (arg3 : Memref sig .tc .vmem S32x1 .i32) (arg4 : Memref sig .tc .vmem S32x1 .f32) (arg5 : Memref sig .tc .vmem S32x1 .i32)
  (arg6 : Memref sig .tc .vmem S32x256 .i32) (B : Bufs)

/-- At the first point the carried values start afresh and take the first block's 64 chunks. -/
theorem wp_first (h1 : atFirst i = 1#1)
    (h2 : beforeLast i = 1#1)
    (h3 : ¬ atLast i = 1#1)
    (h4 : ¬ k0_cond4 i = 1#1)
    (act : Vec F S32x1 .i32) (X : Vec F S32x16384 .f32) (R : Vec F S32x256 .i32) (a : Acc F) (xs : ℕ → FVec F S32x256 .f32)
    (hx : ∀ j (hj : j < 64), chunkOf X j hj = xs j) (K : PUnit → sProp 𝕄) :
    iprop((owns (c : Thread nD τ) arg1 fullShare act ∗ owns (c : Thread nD τ) arg2 fullShare X
          ∗ owns (c : Thread nD τ) arg6 fullShare R ∗ held c B a)
        ∗ (iprop(owns (c : Thread nD τ) arg1 fullShare act ∗ owns (c : Thread nD τ) arg2 fullShare X
          ∗ owns (c : Thread nD τ) arg6 fullShare (Val := Elt F) rowLanes
          ∗ held c B (sweepV xs (blockBase (i 0).val) rowLanes (addi act (firstCol rowLanes)) 64 0 acc0)) -∗ K ⟨⟩))
      ⊢ wp frame (wpE (defs₀ (F := F)) Variants.none c none) E (body i arg1 arg2 arg3 arg4 arg5 arg6 B) K := by
  unfold body
  simp only [if_pos h1, if_pos h2, if_neg h3, if_neg h4, wp_bind]
  iintro ⟨⟨H1, H2, H6, HB⟩, Hk⟩
  iapply wp_stW; isplitl [H6]; · iexact H6
  iintro H6
  iapply wp_put; isplitl [HB]; · iexact HB
  iintro HB
  iapply wp_ldW; isplitl [H6]; · iexact H6
  iintro H6
  iapply wp_ldC; isplitl [H1]; · iexact H1
  iintro H1
  iapply wp_ldB; isplitl [H6]; · iexact H6
  iintro H6
  iapply wp_get; isplitl [HB]; · iexact HB
  iintro HB
  iapply (wp_sweep c E arg2 (fun _ x => x) _ _ _ X xs 64 0 _ _ _ (fun j hj _ _ => hx j hj)); isplitl [H2]; · iexact H2
  iintro H2
  iapply wp_put; isplitl [HB]; · iexact HB
  iintro HB
  iapply le_wp_ret
  iapply Hk
  isplitl [H1]; · iexact H1
  isplitl [H2]; · iexact H2
  isplitl [H6]; · iexact H6
  iexact HB

/-- At a point in between they take its block's 64 chunks. -/
theorem wp_middle (h1 : ¬ atFirst i = 1#1)
    (h2 : beforeLast i = 1#1)
    (h3 : ¬ atLast i = 1#1)
    (h4 : ¬ k0_cond4 i = 1#1)
    (act : Vec F S32x1 .i32) (X : Vec F S32x16384 .f32) (R : IVec S32x256 32) (a : Acc F) (xs : ℕ → FVec F S32x256 .f32)
    (hx : ∀ j (hj : j < 64), chunkOf X j hj = xs j) (K : PUnit → sProp 𝕄) :
    iprop((owns (c : Thread nD τ) arg1 fullShare act ∗ owns (c : Thread nD τ) arg2 fullShare X
          ∗ owns (c : Thread nD τ) arg6 fullShare (Val := Elt F) R ∗ held c B a)
        ∗ (iprop(owns (c : Thread nD τ) arg1 fullShare act ∗ owns (c : Thread nD τ) arg2 fullShare X
          ∗ owns (c : Thread nD τ) arg6 fullShare (Val := Elt F) R
          ∗ held c B (sweepV xs (blockBase (i 0).val) R (addi act (firstCol R)) 64 0 a)) -∗ K ⟨⟩))
      ⊢ wp frame (wpE (defs₀ (F := F)) Variants.none c none) E (body i arg1 arg2 arg3 arg4 arg5 arg6 B) K := by
  unfold body
  simp only [if_neg h1, if_pos h2, if_neg h3, if_neg h4, wp_bind]
  iintro ⟨⟨H1, H2, H6, HB⟩, Hk⟩
  iapply wp_ldW; isplitl [H6]; · iexact H6
  iintro H6
  iapply wp_ldC; isplitl [H1]; · iexact H1
  iintro H1
  iapply wp_ldB; isplitl [H6]; · iexact H6
  iintro H6
  iapply wp_get; isplitl [HB]; · iexact HB
  iintro HB
  iapply (wp_sweep c E arg2 (fun _ x => x) _ _ _ X xs 64 0 _ _ _ (fun j hj _ _ => hx j hj)); isplitl [H2]; · iexact H2
  iintro H2
  iapply wp_put; isplitl [HB]; · iexact HB
  iintro HB
  iapply le_wp_ret
  iapply Hk
  isplitl [H1]; · iexact H1
  isplitl [H2]; · iexact H2
  isplitl [H6]; · iexact H6
  iexact HB

/-- At the last point they take the three masked chunks, and the results are written. -/
theorem wp_last (h1 : ¬ atFirst i = 1#1)
    (h2 : ¬ beforeLast i = 1#1)
    (h3 : atLast i = 1#1)
    (h4 : k0_cond4 i = 1#1)
    (act : Vec F S32x1 .i32) (X : Vec F S32x16384 .f32) (R : IVec S32x256 32) (a : Acc F) (xs : ℕ → FVec F S32x256 .f32)
    (hx : ∀ j (hj : j < 64), j < 3 → masked (Scalar.addi (blockBase (i 0).val) (BitVec.ofNat 32 (256 * j))) (chunkOf X j hj) = xs j)
    (X3 : Vec F S32x1 .i32) (X4 : Vec F S32x1 .f32) (X5 : Vec F S32x1 .i32) (a' : Acc F)
    (ha' : a' = sweepV xs (blockBase (i 0).val) R (addi act (firstCol R)) 3 0 a) (K : PUnit → sProp 𝕄) :
    iprop((owns (c : Thread nD τ) arg1 fullShare act ∗ owns (c : Thread nD τ) arg2 fullShare X
          ∗ owns (c : Thread nD τ) arg3 fullShare X3 ∗ owns (c : Thread nD τ) arg4 fullShare X4 ∗ owns (c : Thread nD τ) arg5 fullShare X5
          ∗ owns (c : Thread nD τ) arg6 fullShare (Val := Elt F) R ∗ held c B a)
        ∗ (iprop(owns (c : Thread nD τ) arg1 fullShare act ∗ owns (c : Thread nD τ) arg2 fullShare X
          ∗ owns (c : Thread nD τ) arg3 fullShare (Val := Elt F) (winner a'.gm a'.gi (firstCol R))
          ∗ owns (c : Thread nD τ) arg4 fullShare (Val := Elt F) (subf (laneSum a'.av) (log (laneSum a'.s)))
          ∗ owns (c : Thread nD τ) arg5 fullShare (Val := Elt F) (winner a'.vm a'.vi (firstCol R))
          ∗ owns (c : Thread nD τ) arg6 fullShare (Val := Elt F) R
          ∗ held c B a') -∗ K ⟨⟩))
      ⊢ wp frame (wpE (defs₀ (F := F)) Variants.none c none) E (body i arg1 arg2 arg3 arg4 arg5 arg6 B) K := by
  subst ha'
  unfold body
  simp only [if_neg h1, if_neg h2, if_pos h3, if_pos h4, wp_bind]
  iintro ⟨⟨H1, H2, H3, H4, H5, H6, HB⟩, Hk⟩
  iapply wp_ldW; isplitl [H6]; · iexact H6
  iintro H6
  iapply wp_ldC; isplitl [H1]; · iexact H1
  iintro H1
  iapply wp_ldB; isplitl [H6]; · iexact H6
  iintro H6
  iapply wp_get; isplitl [HB]; · iexact HB
  iintro HB
  iapply (wp_sweep c E arg2 masked _ _ _ X xs 3 0 _ _ _ (fun j hj _ h => hx j hj (by omega))); isplitl [H2]; · iexact H2
  iintro H2
  iapply wp_put; isplitl [HB]; · iexact HB
  iintro HB
  iapply wp_finish
  isplitl [H3 H4 H5 H6 HB]
  · isplitl [H3]; · iexact H3
    isplitl [H4]; · iexact H4
    isplitl [H5]; · iexact H5
    isplitl [H6]; · iexact H6
    iexact HB
  iintro ⟨H3, H4, H5, H6, HB⟩
  iapply le_wp_ret
  iapply Hk
  isplitl [H1]; · iexact H1
  isplitl [H2]; · iexact H2
  isplitl [H3]; · iexact H3
  isplitl [H4]; · iexact H4
  isplitl [H5]; · iexact H5
  isplitl [H6]; · iexact H6
  iexact HB

end Cert.KernelIdeal
-- ==== Proof.Tile.lean ====
/-
  What the body finds in the logits' buffer.  Chunk `k` of block `t` holds the columns from `16384 t + 256 k` on of the
  logits; the last block overhangs the array, and there the body's mask puts -∞ in the columns that are past it.
-/
module

public import proofs.«01_k».proof.Proof.BodyRun

@[expose] public section

noncomputable section

namespace Cert.KernelIdeal

open Idealize.ShloMosaic Idealize.ShloMosaic.TcCoe Idealize.ShloMosaic.Tactic
open Idealize.SL Idealize.SL.Sem
open Facts₀

variable {F : FTy → Type} [FloatOps F] [Facts]

/-- The logits of chunk `k` of block `t`, with -∞ in the columns past the last. -/
def tileOf (L : FVec F S32x1000000 .f32) (t k : ℕ) : FVec F S32x256 .f32 := fun x =>
  if h : 16384 * t + 256 * k + (x 1).val < 1000000 then L (Shape.pair (d := ![32, 1000000]) (x 0) ⟨16384 * t + 256 * k + (x 1).val, h⟩)
  else Scalar.ofBits .f32 0xFF800000#32

/-- Whether a grid point is the first, before the last, the last. -/
theorem atFirst_iff : ∀ t : Fin cfg0.N, atFirst (grid0.coords t) = 1#1 ↔ t.val = 0 :=
  (by decide +kernel : ∀ t : Fin grid0.N, atFirst (grid0.coords t) = 1#1 ↔ t.val = 0)
theorem beforeLast_iff : ∀ t : Fin cfg0.N, beforeLast (grid0.coords t) = 1#1 ↔ t.val < 61 :=
  (by decide +kernel : ∀ t : Fin grid0.N, beforeLast (grid0.coords t) = 1#1 ↔ t.val < 61)
theorem atLast_iff : ∀ t : Fin cfg0.N, atLast (grid0.coords t) = 1#1 ↔ t.val = 61 :=
  (by decide +kernel : ∀ t : Fin grid0.N, atLast (grid0.coords t) = 1#1 ↔ t.val = 61)
theorem cond4_iff : ∀ t : Fin cfg0.N, k0_cond4 (grid0.coords t) = 1#1 ↔ t.val = 61 :=
  (by decide +kernel : ∀ t : Fin grid0.N, k0_cond4 (grid0.coords t) = 1#1 ↔ t.val = 61)
theorem coords_eq : ∀ t : Fin cfg0.N, (grid0.coords t 0).val = t.val :=
  (by decide +kernel : ∀ t : Fin grid0.N, (grid0.coords t 0).val = t.val)

/-- How many rows and columns of block `t` lie inside the array, and where it begins. -/
theorem xsize_eq : ∀ t : Fin cfg0.N, win0_1.xsize (grid0.coords t) 0 = 32
    ∧ win0_1.xsize (grid0.coords t) 1 = min 16384 (1000000 - 16384 * t.val) :=
  (by decide +kernel : ∀ t : Fin grid0.N, win0_1.xsize (grid0.coords t) 0 = 32
    ∧ win0_1.xsize (grid0.coords t) 1 = min 16384 (1000000 - 16384 * t.val))
theorem index_eq : ∀ t : Fin cfg0.N, win0_1.index t 0 = 0 ∧ win0_1.index t 1 = t.val :=
  (by decide +kernel : ∀ t : Fin grid0.N, win0_1.index t 0 = 0 ∧ win0_1.index t 1 = t.val)

variable (m : (ℓ : Loc nD τ sig) → Buf (Elt F) ℓ) (c : Dev nD)

/-- The logits, as launched. -/
abbrev logits : FVec F S32x1000000 .f32 := m ((c : Thread nD τ).loc main_arg0)
/-- The actions, as launched. -/
abbrev actions : IVec S32x1 32 := m ((c : Thread nD τ).loc main_arg1)

/-- The logits' buffer after the fetch at point `t`, entry by entry. -/
theorem fill_apply (t : Fin cfg0.N) (d : Vec F S32x16384 .f32) (j : S32x16384.Idx) :
    win0_1.fill (grid0.coords t) d (Gen.iblk m c 1 t) j
      = if h : 16384 * t.val + (j 1).val < 1000000 then
          logits m c (Shape.pair (d := ![32, 1000000]) (j 0) ⟨16384 * t.val + (j 1).val, h⟩)
        else d j := by
  have hx := xsize_eq t
  have hi := index_eq t
  have hj1 : (j 1).val < 16384 := (j 1).isLt
  have hj0 : (j 0).val < 32 := (j 0).isLt
  have ht : t.val < 62 := lt_of_lt_of_eq t.isLt Gen.N_0
  by_cases h : 16384 * t.val + (j 1).val < 1000000
  · rw [dif_pos h]
    have hm : win0_1.moved (grid0.coords t) j = true := (win0_1.moved_iff _ j).mpr fun a => by
      fin_cases a
      · exact lt_of_lt_of_eq hj0 hx.1.symm
      · refine lt_of_lt_of_eq (lt_min hj1 ?_) hx.2.symm
        show (j 1).val < _
        omega
    unfold Pipeline.Window.fill
    rw [dif_pos hm]
    show logits m c ((win0_1.rect t).emb _) = _
    refine congrArg (logits m c) (funext fun a => Fin.ext ?_)
    rw [Rect.emb_apply]
    fin_cases a
    · show win0_1.index t 0 * 32 + 1 * (j 0).val = (j 0).val
      rw [hi.1]; omega
    · show win0_1.index t 1 * 16384 + 1 * (j 1).val = 16384 * t.val + (j 1).val
      rw [hi.2]; omega
  · rw [dif_neg h]
    refine win0_1.fill_of_not_moved _ _ _ fun hm => h ?_
    have := (win0_1.moved_iff _ j).mp hm 1
    rw [hx.2] at this
    have := lt_of_lt_of_le this (min_le_right _ _)
    omega

theorem chunkOf_fill (t : Fin cfg0.N) (d : Vec F S32x16384 .f32) (k : ℕ) (hk : k < 64) (x : S32x256.Idx) :
    chunkOf (win0_1.fill (grid0.coords t) d (Gen.iblk m c 1 t)) k hk x
      = if h : 16384 * t.val + 256 * k + (x 1).val < 1000000 then
          logits m c (Shape.pair (d := ![32, 1000000]) (x 0) ⟨16384 * t.val + 256 * k + (x 1).val, h⟩)
        else d ((chunkRect k hk).emb x) := by
  unfold chunkOf
  rw [fill_apply]
  have e1 : (((chunkRect k hk).emb x) 1).val = 256 * k + (x 1).val :=
    (Rect.emb_apply (chunkRect k hk) x 1).trans (by show 256 * k + 1 * (x 1).val = _; omega)
  have e0 : ((chunkRect k hk).emb x) 0 = x 0 := Fin.ext
    ((Rect.emb_apply (chunkRect k hk) x 0).trans (by show 0 + 1 * (x 0).val = _; omega))
  by_cases h : 16384 * t.val + 256 * k + (x 1).val < 1000000
  · rw [dif_pos h, dif_pos (by rw [e1]; omega)]
    refine congrArg (logits m c) ?_
    rw [e0]
    refine congrArg (Shape.pair (d := ![32, 1000000]) (x 0)) (Fin.ext ?_)
    show 16384 * t.val + (((chunkRect k hk).emb x) 1).val = 16384 * t.val + 256 * k + (x 1).val
    rw [e1]; omega
  · rw [dif_neg h, dif_neg (by rw [e1]; omega)]

/-- Before the last point every chunk is the logits'; -/
theorem chunkOf_full (t : Fin cfg0.N) (ht : t.val < 61) (d : Vec F S32x16384 .f32) (k : ℕ) (hk : k < 64) :
    chunkOf (win0_1.fill (grid0.coords t) d (Gen.iblk m c 1 t)) k hk = tileOf (logits m c) t.val k := by
  funext x
  have hx : (x 1).val < 256 := (x 1).isLt
  have h : 16384 * t.val + 256 * k + (x 1).val < 1000000 := by omega
  rw [chunkOf_fill, dif_pos h]
  unfold tileOf
  rw [dif_pos h]

/-- at the last point the three chunks are, once masked. -/
theorem chunkOf_masked (t : Fin cfg0.N) (ht : t.val = 61) (d : Vec F S32x16384 .f32) (k : ℕ) (hk : k < 64) (hk3 : k < 3) :
    masked (Scalar.addi (blockBase t.val) (BitVec.ofNat 32 (256 * k)))
      (chunkOf (win0_1.fill (grid0.coords t) d (Gen.iblk m c 1 t)) k hk) = tileOf (logits m c) t.val k := by
  funext x
  have hx : (x 1).val < 256 := (x 1).isLt
  have hb : ∀ y : Fin 256, (BitVec.slt (BitVec.ofNat 32 y.val + (BitVec.ofNat 32 61 * 16384#32 + BitVec.ofNat 32 (256 * k))) 1000000#32)
      = decide (16384 * 61 + 256 * k + y.val < 1000000) := by
    obtain rfl | rfl | rfl : k = 0 ∨ k = 1 ∨ k = 2 := by omega
    all_goals decide +kernel
  have hc : cmpi .slt (addi (iota .tc S32x256 32 [1] iota_S32x256_d1_w32) (broadcast S32x256 (Scalar.addi (blockBase t.val) (BitVec.ofNat 32 (256 * k)))))
      (broadcast S32x256 1000000#32) x = BitVec.ofBool (decide (16384 * 61 + 256 * k + (x 1).val < 1000000)) := by
    rw [← hb ⟨(x 1).val, hx⟩, ht]
    show BitVec.ofBool (BitVec.slt (iota .tc S32x256 32 [1] iota_S32x256_d1_w32 x + _) _) = _
    rw [iota_single_apply]
    rfl
  unfold masked tileOf
  show (if _ = 1#1 then _ else _) = _
  rw [hc, chunkOf_fill]
  rw [ht]
  by_cases h : 16384 * 61 + 256 * k + (x 1).val < 1000000
  · simp only [h, dif_pos, decide_true]; rfl
  · simp only [h, decide_false]; rfl

end Cert.KernelIdeal
-- ==== Proof.Run.lean ====
/-
  The kernel's run.  The invariant says what the seven scratch buffers hold after each grid point; the outputs' buffers are
  named at the last point only, the one that writes them.  Every run ends with the three results at what the carried values
  give after the last chunk, with the arguments unchanged and every semaphore counter at zero.
-/
module

public import proofs.«01_k».proof.Proof.Tile
public import Idealize.ShloMosaic.Lib.Claim

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀

variable {F : FTy → Type} [FloatOps F]

local instance : Facts := Gen.facts

local notation "𝕄" => MT nD τ sig Unit (Elt F) ℕ (UR sig nD τ) ℕ

/-- What the carried values are before block `n`, on logits `L` and actions `A`. -/
def accAfter (L : FVec F S32x1000000 .f32) (A : IVec S32x1 32) : ℕ → Acc F
  | 0 => acc0
  | n + 1 => sweepV (tileOf L n) (blockBase n) rowLanes (addi A (firstCol rowLanes)) (if n = 61 then 3 else 64) 0 (accAfter L A n)

/-- The sampled action of each row, -/
def sampleOut (L : FVec F S32x1000000 .f32) (A : IVec S32x1 32) : IVec S32x1 32 :=
  winner (accAfter L A 62).gm (accAfter L A 62).gi (firstCol rowLanes)
/-- the log-probability of its action, -/
def logpOut (L : FVec F S32x1000000 .f32) (A : IVec S32x1 32) : FVec F S32x1 .f32 :=
  subf (laneSum (accAfter L A 62).av) (log (laneSum (accAfter L A 62).s))
/-- its most probable action. -/
def modeOut (L : FVec F S32x1000000 .f32) (A : IVec S32x1 32) : IVec S32x1 32 :=
  winner (accAfter L A 62).vm (accAfter L A 62).vi (firstCol rowLanes)

variable (m : (ℓ : Loc nD τ sig) → Buf (Elt F) ℓ) (ρ : Dev nD → PrngReg)

/-- The row bases' buffer and the six carried buffers. -/
abbrev rowBuf : Memref sig .tc .vmem S32x256 .i32 := Memref.whole cc0_scratch0
abbrev accBufs : Bufs := ⟨Memref.whole cc0_scratch1, Memref.whole cc0_scratch2, Memref.whole cc0_scratch3,
  Memref.whole cc0_scratch4, Memref.whole cc0_scratch5, Memref.whole cc0_scratch6⟩

/-- The invariant before point `n`. -/
def inv (c : Dev nD) : ℕ → sProp 𝕄
  | 0 => Pipeline.ΦA spec0 c
  | n + 1 => iprop((owns (c : Thread nD τ) rowBuf fullShare (Val := Elt F) rowLanes
      ∗ held c accBufs (accAfter (logits m c) (actions m c) (n + 1))) ∗ (∃ r, prngReg c r))

theorem inv_pos (c : Dev nD) (n : ℕ) (h : n ≠ 0) : inv m c n
    = iprop((owns (c : Thread nD τ) rowBuf fullShare (Val := Elt F) rowLanes
      ∗ held c accBufs (accAfter (logits m c) (actions m c) n)) ∗ (∃ r, prngReg c r)) := by
  cases n with
  | zero => exact absurd rfl h
  | succ n => rfl

/-- Before the first point the scratch buffers hold anything. -/
theorem any_scratch (c : Dev nD) :
    (Pipeline.ΦA spec0 c : sProp 𝕄)
      ⊢ iprop((∃ R : IVec S32x256 32, owns (c : Thread nD τ) rowBuf fullShare (Val := Elt F) R)
        ∗ (∃ a : Acc F, held c accBufs a) ∗ (∃ r, prngReg c r)) := by
  unfold Pipeline.ΦA held
  rw [Gen.scopedRest0_eq]
  simp only [rowBuf, owns_whole]
  iintro ⟨⟨⟨%f0, H0⟩, ⟨%f1, H1⟩, ⟨%f2, H2⟩, ⟨%f3, H3⟩, ⟨%f4, H4⟩, ⟨%f5, H5⟩, ⟨%f6, H6⟩⟩, Hg⟩
  isplitl [H0]
  · iexists f0; iexact H0
  isplitr [Hg]
  · iexists ⟨f1, f2, f3, f4, f5, f6⟩
    isplitl [H1]; · iexact H1
    isplitl [H2]; · iexact H2
    isplitl [H3]; · iexact H3
    isplitl [H4]; · iexact H4
    isplitl [H5]; · iexact H5
    iexact H6
  iexact Hg

theorem forget_scratch (c : Dev nD) (R : IVec S32x256 32) (a : Acc F) :
    iprop((owns (c : Thread nD τ) rowBuf fullShare (Val := Elt F) R ∗ held c accBufs a) ∗ (∃ r, prngReg c r))
      ⊢ (Pipeline.ΦA spec0 c : sProp 𝕄) := by
  unfold Pipeline.ΦA held
  rw [Gen.scopedRest0_eq]
  simp only [rowBuf, owns_whole]
  iintro ⟨⟨H0, H1, H2, H3, H4, H5, H6⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  iexact Hg

/-- The proof data: the actions' buffer keeps its block, the logits' buffer keeps what the fetch put in it, the outputs'
buffers hold the results. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => Scalar.ofBits .f32 0#32) (Gen.iblk m c 1 t)
    | ⟨2, _⟩ => sampleOut (logits m c) (actions m c)
    | ⟨3, _⟩ => logpOut (logits m c) (actions m c)
    | ⟨4, _⟩ => modeOut (logits m c) (actions m c)
  Φ t := inv m c t.val
  q _ := fullShare
  owed _ := 0

theorem A_eq (c : Dev nD) (w : Fin cfg0.W) : (dats m 0 c).A w = Gen.V m c (Pipeline.arrRef spec0 w) := by
  dsimp only [dats]

theorem before0 (c : Dev nD) (t : Fin cfg0.N) (d) : (dats m 0 c).before 0 t d = actions m c := by
  rw [Gen.before0_0_of m (dats m 0 c) (A_eq m c 0) (fun t => by dsimp only [dats])]
  funext x
  show actions m c ((win0_0.rect t).emb x) = _
  refine congrArg (actions m c) (funext fun a => Fin.ext ?_)
  rw [Rect.emb_apply]
  have h : ∀ a, win0_0.index t a = 0 := fun a => by fin_cases a <;> rfl
  fin_cases a
  · show win0_0.index t 0 * 32 + 1 * (x 0).val = (x 0).val
    rw [h]; omega
  · show win0_0.index t 1 * 1 + 1 * (x 1).val = (x 1).val
    rw [h]; omega

theorem before1 (c : Dev nD) (t : Fin cfg0.N) (d) :
    (dats m 0 c).before 1 t d = win0_1.fill (grid0.coords t) d (Gen.iblk m c 1 t) := by
  unfold Dat.before; rw [if_pos (Gen.fetch0_1 t)]; rfl

/-- The row of the body table at point `t`'s buffers is the folded body. -/
theorem row_eq (t : Fin cfg0.N) :
    defs₀ (F := F) .tc cfg0.body (cfg0.bodyArgs t (cfg0.slots t))
      = body (grid0.coords t) (Gen.st0_0 t) (Gen.st0_1 t) (Gen.st0_2 t) (Gen.st0_3 t) (Gen.st0_4 t) rowBuf accBufs := by
  unfold defs₀; rw [Defs.onTc_tc]; exact body_eq ..

/-- At a point where nothing is written to the outputs their buffers pass through, at the last point they don't. -/
theorem idle_of (t : Fin cfg0.N) (b : Bool) (h : (k0_cond4 (grid0.coords t) == 1#1) = !b) :
    idle0 2 (grid0.coords t) = b ∧ idle0 3 (grid0.coords t) = b ∧ idle0 4 (grid0.coords t) = b := by
  have : (!(k0_cond4 (grid0.coords t) == 1#1)) = b := by rw [h, Bool.not_not]
  exact ⟨this, this, this⟩

theorem acc_step (L : FVec F S32x1000000 .f32) (A : IVec S32x1 32) (n : ℕ) (h : ¬ n = 61) :
    accAfter L A (n + 1) = sweepV (tileOf L n) (blockBase n) rowLanes (addi A (firstCol rowLanes)) 64 0 (accAfter L A n) := by
  simp only [accAfter, if_neg h]

theorem acc_last (L : FVec F S32x1000000 .f32) (A : IVec S32x1 32) (n : ℕ) (h : n = 61) :
    accAfter L A (n + 1) = sweepV (tileOf L n) (blockBase n) rowLanes (addi A (firstCol rowLanes)) 3 0 (accAfter L A n) := by
  simp only [accAfter, if_pos h]

/-- The logits' buffer comes back as the fetch left it. -/
theorem keeps1 (c : Dev nD) (t : Fin cfg0.N) (d : Vec F S32x16384 .f32) :
    win0_1.fill (grid0.coords t) d (win0_1.cut (grid0.coords t) ((dats m 0 c).after 1 t))
      = win0_1.fill (grid0.coords t) d (Gen.iblk m c 1 t) :=
  congrArg (win0_1.fill (grid0.coords t) d) (win0_1.cut_fill _ _ _)

theorem keeps0 (c : Dev nD) (t : Fin cfg0.N) : (dats m 0 c).after 0 t = actions m c :=
  (show (dats m 0 c).after 0 t = Gen.iblk m c 0 t by dsimp only [dats]).trans
    ((Gen.before0_0_of m (dats m 0 c) (A_eq m c 0) (fun t => by dsimp only [dats]) t (fun _ => 0#32)).symm.trans (before0 m c t _))

set_option maxHeartbeats 1600000 in
/-- The body at any point takes the invariant to the next. -/
theorem body_obligation (c : Dev nD) : BodyObligationLoose (dats (F := F) m 0 c) (defs₀ (F := F)) Variants.none () Set.univ := fun t => by
  rw [Gen.bigSep_W0, Gen.bigSep_W0, row_eq]
  rw [show (dats m 0 c).owesAt () t.succ = (dats m 0 c).owesAt () t.castSucc from rfl,
    show (dats m 0 c).Φ t.castSucc = inv m c t.val from rfl, show (dats m 0 c).Φ t.succ = inv m c (t.val + 1) from rfl]
  have hN : t.val < 62 := lt_of_lt_of_eq t.isLt Gen.N_0
  simp only [before0, before1, keeps0]
  rw [inv_pos m c (t.val + 1) (by omega)]
  by_cases h61 : t.val = 61
  · obtain ⟨i2, i3, i4⟩ := idle_of t false (by simp [cond4_iff, h61])
    rw [i2]
    simp only
    rw [inv_pos m c t.val (by omega)]
    iintro ⟨⟨⟨H6, HB⟩, Hg⟩, Ho, ⟨%d0, H1⟩, ⟨%d1, H2⟩, ⟨%d2, H3⟩, ⟨%d3, H4⟩, ⟨%d4, H5⟩⟩
    iapply (wp_last c Set.univ (grid0.coords t) _ _ _ _ _ _ _ (fun h => by have := (atFirst_iff t).mp h; omega)
      (fun h => by have := (beforeLast_iff t).mp h; omega) ((atLast_iff t).mpr h61) ((cond4_iff t).mpr h61) (actions m c)
      (win0_1.fill (grid0.coords t) d1 (Gen.iblk m c 1 t)) rowLanes (accAfter (logits m c) (actions m c) t.val) (tileOf (logits m c) t.val)
      (fun k hk hk3 => by rw [coords_eq]; exact chunkOf_masked m c t h61 d1 k hk hk3) _ _ _
      (accAfter (logits m c) (actions m c) (t.val + 1)) (by rw [coords_eq]; exact acc_last _ _ _ h61) _)
    isplitl [H1 H2 H3 H4 H5 H6 HB]
    · isplitl [H1]; · iexact H1
      isplitl [H2]; · iexact H2
      isplitl [H3]; · iexact H3
      isplitl [H4]; · iexact H4
      isplitl [H5]; · iexact H5
      isplitl [H6]; · iexact H6
      iexact HB
    iintro ⟨H1, H2, H3, H4, H5, H6, HB⟩
    isplitl [H6 HB Hg]
    · isplitl [H6 HB]
      · isplitl [H6]; · iexact H6
        iexact HB
      iexact Hg
    isplitl [Ho]; · iexact Ho
    isplitl [H1]; · iexact H1
    isplitl [H2]
    · iexists d1
      change _ ⊢ owns (c : Thread nD τ) (Gen.st0_1 t) fullShare (win0_1.fill (grid0.coords t) d1 (win0_1.cut (grid0.coords t) ((dats m 0 c).after 1 t)))
      rw [keeps1]
    have e62 : t.val + 1 = 62 := by omega
    rw [e62]
    isplitl [H3]; · iexact H3
    isplitl [H4]; · iexact H4
    iexact H5
  · obtain ⟨i2, i3, i4⟩ := idle_of t true (by simp [cond4_iff, h61])
    have f2 : (win0 2).flush t = false := by rw [Bool.eq_false_iff]; exact fun h => h61 (by have := (Gen.flush0_2 t).mp h; omega)
    have f3 : (win0 3).flush t = false := by rw [Bool.eq_false_iff]; exact fun h => h61 (by have := (Gen.flush0_3 t).mp h; omega)
    have f4 : (win0 4).flush t = false := by rw [Bool.eq_false_iff]; exact fun h => h61 (by have := (Gen.flush0_4 t).mp h; omega)
    rw [i2, f2, f3, f4]
    simp only
    by_cases h0 : t.val = 0
    · have hinv : inv m c t.val = Pipeline.ΦA spec0 c := by rw [h0]; rfl
      rw [hinv]
      iintro ⟨HS, Ho, ⟨%d0, H1⟩, ⟨%d1, H2⟩, H3, H4, H5⟩
      ihave HS := any_scratch c $$ HS
      icases HS with ⟨⟨%R, H6⟩, ⟨%a, HB⟩, Hg⟩
      iapply (wp_first c Set.univ (grid0.coords t) _ _ _ _ _ _ _ ((atFirst_iff t).mpr h0)
        ((beforeLast_iff t).mpr (by omega)) (fun h => h61 ((atLast_iff t).mp h)) (fun h => h61 ((cond4_iff t).mp h)) (actions m c)
        (win0_1.fill (grid0.coords t) d1 (Gen.iblk m c 1 t)) R a (tileOf (logits m c) t.val)
        (fun k hk => chunkOf_full m c t (by omega) d1 k hk) _)
      isplitl [H1 H2 H6 HB]
      · isplitl [H1]; · iexact H1
        isplitl [H2]; · iexact H2
        isplitl [H6]; · iexact H6
        iexact HB
      iintro ⟨H1, H2, H6, HB⟩
      rw [acc_step _ _ _ h61, coords_eq, show accAfter (logits m c) (actions m c) t.val = acc0 by rw [h0]; rfl]
      isplitl [H6 HB Hg]
      · isplitl [H6 HB]
        · isplitl [H6]; · iexact H6
          iexact HB
        iexact Hg
      isplitl [Ho]; · iexact Ho
      isplitl [H1]; · iexact H1
      isplitl [H2]
      · iexists d1
        change _ ⊢ owns (c : Thread nD τ) (Gen.st0_1 t) fullShare (win0_1.fill (grid0.coords t) d1 (win0_1.cut (grid0.coords t) ((dats m 0 c).after 1 t)))
        rw [keeps1]
      isplitl [H3]; · iexact H3
      isplitl [H4]; · iexact H4
      iexact H5
    · rw [inv_pos m c t.val h0]
      iintro ⟨⟨⟨H6, HB⟩, Hg⟩, Ho, ⟨%d0, H1⟩, ⟨%d1, H2⟩, H3, H4, H5⟩
      iapply (wp_middle c Set.univ (grid0.coords t) _ _ _ _ _ _ _ (fun h => h0 ((atFirst_iff t).mp h))
        ((beforeLast_iff t).mpr (by omega)) (fun h => h61 ((atLast_iff t).mp h)) (fun h => h61 ((cond4_iff t).mp h)) (actions m c)
        (win0_1.fill (grid0.coords t) d1 (Gen.iblk m c 1 t)) rowLanes (accAfter (logits m c) (actions m c) t.val) (tileOf (logits m c) t.val)
        (fun k hk => chunkOf_full m c t (by omega) d1 k hk) _)
      isplitl [H1 H2 H6 HB]
      · isplitl [H1]; · iexact H1
        isplitl [H2]; · iexact H2
        isplitl [H6]; · iexact H6
        iexact HB
      iintro ⟨H1, H2, H6, HB⟩
      rw [acc_step _ _ _ h61, coords_eq]
      isplitl [H6 HB Hg]
      · isplitl [H6 HB]
        · isplitl [H6]; · iexact H6
          iexact HB
        iexact Hg
      isplitl [Ho]; · iexact Ho
      isplitl [H1]; · iexact H1
      isplitl [H2]
      · iexists d1
        change _ ⊢ owns (c : Thread nD τ) (Gen.st0_1 t) fullShare (win0_1.fill (grid0.coords t) d1 (win0_1.cut (grid0.coords t) ((dats m 0 c).after 1 t)))
        rw [keeps1]
      isplitl [H3]; · iexact H3
      isplitl [H4]; · iexact H4
      iexact H5

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = inv m c cfg0.N from rfl,
    inv_pos m c cfg0.N (by have : cfg0.N = 62 := Gen.N_0; omega)]
  exact forget_scratch c _ _

-- the run theorem's implicit arguments are found by unifying its conclusion with this one
set_option backward.isDefEq.respectTransparency.types false in
/-- Every run ends with the arrays at what the proof data say and every semaphore counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame_track (Q' := _) cfgs (dats m) (0 : Fin 1) Gen.launch0 defs₀ Variants.none m ρ main
    (hbody := fun c => body_obligation m c) (hshare := fun c => (dats m 0 c).share_full fun _ => rfl)
    (howed := fun _ _ => rfl) (V := Gen.V m) (hmain := Gen.hmain m Variants.none) (hA := A_eq m) (hin := hin m) (hout := hout m)
    (hQ' := fun _ h => h)

/-- The last point. -/
abbrev tLast : Fin cfg0.N := ⟨61, by rw [show cfg0.N = 62 from Gen.N_0]; omega⟩

/-! Each output's block is its whole array, so the array ends at what the last point leaves in the buffer. -/

theorem final2 (c : Dev nD) : (dats m 0 c).arrAt 2 cfg0.N = sampleOut (logits m c) (actions m c) := by
  have hz : ∀ t, (fun a => win0_2.index t a * main_v0_0.ty.shape.size a) = fun _ => 0 := fun t => funext fun a => by fin_cases a <;> rfl
  refine (dats m 0 c).arrAt_eq_of_cover 2 _ (fun t _ =>
    (Memref.read_access_unit_zero (Elt F) main_v0_0 (hz t) (fun a => by rw [congrFun (hz t) a]; simp) (sampleOut (logits m c) (actions m c))).symm)
    fun i => ⟨tLast, (Gen.flush0_2 tLast).mpr rfl, ?_⟩
  show i ∈ ((View.whole main_v0_0).slice (win0_2.rect tLast)).set
  rw [View.set_slice_whole, Rect.mem_set_unit]
  intro a
  have e : win0_2.index tLast a * win0_2.size a = 0 := congrFun (hz tLast) a
  exact ⟨le_of_eq_of_le e (Nat.zero_le _), lt_of_lt_of_eq (i a).isLt (by
    show _ = win0_2.index tLast a * win0_2.size a + _
    rw [e]; exact (Nat.zero_add _).symm)⟩

theorem final3 (c : Dev nD) : (dats m 0 c).arrAt 3 cfg0.N = logpOut (logits m c) (actions m c) := by
  have hz : ∀ t, (fun a => win0_3.index t a * main_v0_1.ty.shape.size a) = fun _ => 0 := fun t => funext fun a => by fin_cases a <;> rfl
  refine (dats m 0 c).arrAt_eq_of_cover 3 _ (fun t _ =>
    (Memref.read_access_unit_zero (Elt F) main_v0_1 (hz t) (fun a => by rw [congrFun (hz t) a]; simp) (logpOut (logits m c) (actions m c))).symm)
    fun i => ⟨tLast, (Gen.flush0_3 tLast).mpr rfl, ?_⟩
  show i ∈ ((View.whole main_v0_1).slice (win0_3.rect tLast)).set
  rw [View.set_slice_whole, Rect.mem_set_unit]
  intro a
  have e : win0_3.index tLast a * win0_3.size a = 0 := congrFun (hz tLast) a
  exact ⟨le_of_eq_of_le e (Nat.zero_le _), lt_of_lt_of_eq (i a).isLt (by
    show _ = win0_3.index tLast a * win0_3.size a + _
    rw [e]; exact (Nat.zero_add _).symm)⟩

theorem final4 (c : Dev nD) : (dats m 0 c).arrAt 4 cfg0.N = modeOut (logits m c) (actions m c) := by
  have hz : ∀ t, (fun a => win0_4.index t a * main_v0_2.ty.shape.size a) = fun _ => 0 := fun t => funext fun a => by fin_cases a <;> rfl
  refine (dats m 0 c).arrAt_eq_of_cover 4 _ (fun t _ =>
    (Memref.read_access_unit_zero (Elt F) main_v0_2 (hz t) (fun a => by rw [congrFun (hz t) a]; simp) (modeOut (logits m c) (actions m c))).symm)
    fun i => ⟨tLast, (Gen.flush0_4 tLast).mpr rfl, ?_⟩
  show i ∈ ((View.whole main_v0_2).slice (win0_4.rect tLast)).set
  rw [View.set_slice_whole, Rect.mem_set_unit]
  intro a
  have e : win0_4.index tLast a * win0_4.size a = 0 := congrFun (hz tLast) a
  exact ⟨le_of_eq_of_le e (Nat.zero_le _), lt_of_lt_of_eq (i a).isLt (by
    show _ = win0_4.index tLast a * win0_4.size a + _
    rw [e]; exact (Nat.zero_add _).symm)⟩

/-- Every run ends with the three results, the arguments unchanged and every semaphore counter at zero. -/
theorem run_values : θ_run defs (onTc (τ := τ) (main (F := F))) ⟨m, fun _ => 0, ρ⟩ (fun r => (∀ c : Dev nD,
      r.2.mem ((c.tc : Thread nD τ).loc main_v0_0) = sampleOut (logits m c) (actions m c)
      ∧ r.2.mem ((c.tc : Thread nD τ).loc main_v0_1) = logpOut (logits m c) (actions m c)
      ∧ r.2.mem ((c.tc : Thread nD τ).loc main_v0_2) = modeOut (logits m c) (actions m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).1 2).trans (final2 m c), ((h.1 c).1 3).trans (final3 m c), ((h.1 c).1 4).trans (final4 m c),
      ((h.1 c).1 1).trans (((dats m 0 c).arrAt_in 1 rfl _).trans ((A_eq m c 1).trans (Gen.V_main_arg0 m c))),
      ((h.1 c).1 0).trans (((dats m 0 c).arrAt_in 0 rfl _).trans ((A_eq m c 0).trans (Gen.V_main_arg1 m c)))⟩, h.2⟩) (run_main m ρ)

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h.1 c).2.2.2, h.2⟩) (run_values m ρ)

end Cert.KernelIdeal
-- ==== Proof.FrameBits.lean ====
/-
  The kernel as printed and the kernel read over the reals are one text, so the frame proved for the second at any values
  is the frame of the first.
-/
module

public import proofs.«01_k».proof.Proof.Run
public import proofs.«01_k».proof.Defs
public import proofs.«01_k».proof.Proof.Gen.Kernel

@[expose] public section

noncomputable section

namespace Cert.Kernel

open Idealize.ShloMosaic Idealize.ShloMosaic.TcCoe Idealize.ShloMosaic.Tactic
open Idealize.SL Idealize.SL.Sem

/-- The printed kernel's frame claim and the same claim of the other text, at words. -/
theorem same_frame :
    (∀ (m : (ℓ : Loc Cert.Kernel.nD Cert.Kernel.τ Cert.Kernel.sig) → Buf (Elt Bits) ℓ) (g : Dev Cert.Kernel.nD → PrngReg),
      θ_run (Cert.Kernel.defs (F := Bits)) (onTc (τ := Cert.Kernel.τ) (Cert.Kernel.main (F := Bits))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0))
    = (∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) := by
  sl_kernel_rfl

end Cert.Kernel
-- ==== Proof.Line.lean ====
/-
A program of host operations only, read one operation at a time.

`Ends p V Q` says that `p` is a straight line of operations, none of which leaves a result undetermined, and that the buffer
contents it makes of `V` satisfy `Q`. The rules below take a printed program apart at its binds, so that a long program can be
read in stages, the contents between two stages being a variable of which a few facts are known.
-/
module

public import Idealize.ShloMosaic.Lib.StableHlo.Run

@[expose] public section

namespace Cert.Line

open Idealize.ShloMosaic Idealize.ShloMosaic.StableHlo Idealize.SL.Sem

variable {nD : Nat} {τ : Topo} {sig : RefSig} {Val : EltTy → Type} {Λ : Labels}

/-- The program is a straight line of operations, and what it makes of the contents `V` satisfies `Q`. -/
def Ends (p : Prog (TpuEff nD τ sig Val Λ .tc) PUnit) (V : Valuation τ sig Val) (Q : Valuation τ sig Val → Prop) : Prop :=
  ∃ ops : List (HloOp τ sig Val), p = seq ops ∧ (ops.Forall fun op => op.bufs ⊆ tcRefs τ sig) ∧
    (∀ op ∈ ops, op.fresh = ∅) ∧ Q (after ops V)

/-- The empty program leaves the contents as they are. -/
theorem Ends.done {V : Valuation τ sig Val} {Q : Valuation τ sig Val → Prop} (h : Q V) :
    Ends (nD := nD) (Λ := Λ) (pure ⟨⟩) V Q :=
  ⟨[], rfl, trivial, (by intro _ h; exact nomatch h), h⟩

/-- One program after another. -/
theorem Ends.bind {p k : Prog (TpuEff nD τ sig Val Λ .tc) PUnit} {V : Valuation τ sig Val} {Q : Valuation τ sig Val → Prop}
    (h : Ends p V fun V' => Ends k V' Q) : Ends (p >>= fun _ => k) V Q := by
  obtain ⟨a, ha, sa, fa, b, hb, sb, fb, hq⟩ := h
  refine ⟨a ++ b, ?_, ?_, ?_, ?_⟩
  · rw [seq_append, ha, hb]
  · exact (List.forall_append).mpr ⟨sa, sb⟩
  · intro op hop
    rcases List.mem_append.mp hop with h | h
    · exact fa op h
    · exact fb op h
  · have e : ∀ (l : List (HloOp τ sig Val)) (W : Valuation τ sig Val), after (l ++ b) W = after b (after l W) := by
      intro l
      induction l with
      | nil => intro W; rfl
      | cons o l ih => intro W; exact ih _
    rw [e]; exact hq

/-- One operation, then the rest. -/
theorem Ends.step {op : HloOp τ sig Val} {k : Prog (TpuEff nD τ sig Val Λ .tc) PUnit} {V : Valuation τ sig Val}
    {Q : Valuation τ sig Val → Prop} (hb : op.bufs ⊆ tcRefs τ sig) (hf : op.fresh = ∅) (h : Ends k (op.result V) Q) :
    Ends ((hlo rfl op fun _ => .ret (⟨⟩ : PUnit)) >>= fun _ => k) V Q := by
  obtain ⟨b, hk, sb, fb, hq⟩ := h
  refine ⟨op :: b, by rw [hk]; rfl, (List.forall_cons _ _ _).mpr ⟨hb, sb⟩, ?_, hq⟩
  intro o ho
  rcases List.mem_cons.mp ho with h | h
  · exact h ▸ hf
  · exact fb o h

/-- One operation by itself. -/
theorem Ends.last {op : HloOp τ sig Val} {V : Valuation τ sig Val} {Q : Valuation τ sig Val → Prop}
    (hb : op.bufs ⊆ tcRefs τ sig) (hf : op.fresh = ∅) (h : Q (op.result V)) :
    Ends (nD := nD) (Λ := Λ) (hlo rfl op fun _ => .ret (⟨⟩ : PUnit)) V Q := by
  refine ⟨[op], rfl, (List.forall_cons _ _ _).mpr ⟨hb, trivial⟩, ?_, h⟩
  intro o ho
  exact (List.mem_singleton.mp ho) ▸ hf

/-- What is known at the end may be weakened. -/
theorem Ends.mono {p : Prog (TpuEff nD τ sig Val Λ .tc) PUnit} {V : Valuation τ sig Val} {Q Q' : Valuation τ sig Val → Prop}
    (h : Ends p V Q) (hQ : ∀ W, Q W → Q' W) : Ends p V Q' := by
  obtain ⟨a, ha, sa, fa, hq⟩ := h
  exact ⟨a, ha, sa, fa, hQ _ hq⟩

/-- A program so read on every device runs to the end, and the buffers then hold contents of which the facts are true. -/
theorem run_of_ends (defs : Defs nD τ sig Val Λ) (main : Dev nD → Prog (TpuEff nD τ sig Val Λ .tc) PUnit)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) (Q : Dev nD → Valuation τ sig Val → Prop)
    (h : ∀ d, Ends (main d) (launchContents m d) (Q d)) :
    θ_run defs (onTc (τ := τ) main) ⟨m, fun _ => 0, ρ⟩ fun r =>
      ∀ d, ∃ V, Q d V ∧ ∀ b : Ref sig .tc, r.2.mem ((d.tc : Thread nD τ).loc b) = V (Proc.devRef .tc b) := by
  choose ops hm hs hf hq using h
  exact (θ_run defs _ _).mono (fun r hr d => ⟨_, hq d, hr d⟩) (run_seq hR hC defs main ops hm hs m ρ hf)

end Cert.Line
-- ==== Proof.Ref.lean ====
/-
  What the reference computes, as one array after another: the log-softmax, the random words and the noise made of them, the
  three results.  Nothing is proved here; the names are the ones that the run and the mathematics share.
-/
module

public import proofs.«01_k».proof.Proof.Gen.ReferenceIdeal

@[expose] public section

noncomputable section

namespace Cert.ReferenceIdeal

open Idealize.ShloMosaic
open Facts₀

variable {F : FTy → Type} [FloatOps F]

local instance : Facts := Gen.facts

/-- One word at every place. -/
def splat (w : BitVec 32) : IVec S32x1000000 32 := broadcastInDim S32x1000000 ![] bcast_S_S32x1000000 (constantI S_ 32 w)

/-- One number at every place. -/
def fsplat (w : BitVec 32) : FVec F S32x1000000 .f32 := broadcastInDim S32x1000000 ![] bcast_S_S32x1000000 (constant S_ .f32 w)

/-- Each place's flat index. -/
def flatIndex : IVec S32x1000000 32 := addi (muli (iotaInDim S32x1000000 32 0) (splat 1000000#32)) (iotaInDim S32x1000000 32 1)

/-- One round on the two halves: `r` the rotation to the left, `s` the rest of the word. -/
def turn (r s : BitVec 32) (p : IVec S32x1000000 32 × IVec S32x1000000 32) : IVec S32x1000000 32 × IVec S32x1000000 32 :=
  (addi p.1 p.2, xori (addi p.1 p.2) (ori (Host.shli p.2 (splat r)) (Host.shrui p.2 (splat s))))

/-- The rounds of the first, third and fifth group, -/
def turnsA (p : IVec S32x1000000 32 × IVec S32x1000000 32) : IVec S32x1000000 32 × IVec S32x1000000 32 :=
  turn 6#32 26#32 (turn 26#32 6#32 (turn 15#32 17#32 (turn 13#32 19#32 p)))

/-- and of the second and fourth. -/
def turnsB (p : IVec S32x1000000 32 × IVec S32x1000000 32) : IVec S32x1000000 32 × IVec S32x1000000 32 :=
  turn 24#32 8#32 (turn 16#32 16#32 (turn 29#32 3#32 (turn 17#32 15#32 p)))

/-- A word of the key schedule added to each half. -/
def inject (a b : BitVec 32) (p : IVec S32x1000000 32 × IVec S32x1000000 32) : IVec S32x1000000 32 × IVec S32x1000000 32 :=
  (addi p.1 (splat a), addi p.2 (splat b))

/-- The generator's two words at every place, after each group. -/
def words1 : IVec S32x1000000 32 × IVec S32x1000000 32 := inject 42#32 466689009#32 (turnsA (inject 0#32 42#32 (splat 0#32, flatIndex)))
def words2 : IVec S32x1000000 32 × IVec S32x1000000 32 := inject 466689008#32 2#32 (turnsB words1)
def words3 : IVec S32x1000000 32 × IVec S32x1000000 32 := inject 0#32 45#32 (turnsA words2)
def words4 : IVec S32x1000000 32 × IVec S32x1000000 32 := inject 42#32 466689012#32 (turnsB words3)
def words5 : IVec S32x1000000 32 × IVec S32x1000000 32 := inject 466689008#32 5#32 (turnsA words4)

/-- The uniform number at every place, -/
def uniformV : FVec F S32x1000000 .f32 :=
  maximumf (fsplat 0x00800000#32)
    (addf (subf (bitcastToFloat .f32 (ori (Host.shrui (xori words5.1 words5.2) (splat 9#32)) (splat 1065353216#32)))
      (fsplat 0x3F800000#32)) (fsplat 0x00800000#32))

/-- and the noise made of it. -/
def noise : FVec F S32x1000000 .f32 := Host.negf (Host.log (Host.negf (Host.log uniformV)))

/-- The logits less their row's largest. -/
def shifted (X : FVec F S32x1000000 .f32) : FVec F S32x1000000 .f32 :=
  subf X (broadcastInDim S32x1000000 ![0, 1] bcast_S32x1_S32x1000000_0_1 (broadcastInDim S32x1 ![0] bcast_S32_S32x1_0
    (maximumf (broadcastInDim S32 ![] bcast_S_S32 (constant S_ .f32 0xFF800000#32))
      (Host.reduce FloatOps.maximumf X (constant S_ .f32 0xFF800000#32) reducesTo_S32x1000000_S32_d1 h_S_))))

/-- The logarithm of the softmax. -/
def logSoftmax (X : FVec F S32x1000000 .f32) : FVec F S32x1000000 .f32 :=
  subf (shifted X) (broadcastInDim S32x1000000 ![0, 1] bcast_S32x1_S32x1000000_0_1 (Host.log (broadcastInDim S32x1 ![0] bcast_S32_S32x1_0
    (Host.reduceAdd (Host.exp (shifted X)) (constant S_ .f32 0x00000000#32) reducesTo_S32x1000000_S32_d1 h_S_))))

/-- Each row's largest entry and the first column that holds it; -/
def argPair (X : FVec F S32x1000000 .f32) : S32.Idx → F .f32 × BitVec 32 :=
  Host.argReduce reducer_argmax_f32_i32 X (iotaInDim S32x1000000 32 1) (constant S_ .f32 0xFF800000#32) (constantI S_ 32 0#32)
    reducesTo_S32x1000000_S32_d1 h_S_

/-- of such a pair the column; -/
def column (p : F .f32 × BitVec 32) : BitVec 32 := p.2

/-- the columns. -/
def argmaxV (X : FVec F S32x1000000 .f32) : IVec S32 32 := fun j => column (argPair X j)

theorem columns_eq (g : S32.Idx → F .f32 × BitVec 32) : (fun j => (g j).2) = fun j => column (g j) := rfl

theorem argmaxV_seen (X : FVec F S32x1000000 .f32) :
    (fun j => (Host.argReduce reducer_argmax_f32_i32 X (iotaInDim S32x1000000 32 1) (constant S_ .f32 0xFF800000#32) (constantI S_ 32 0#32)
      reducesTo_S32x1000000_S32_d1 h_S_ j).2) = argmaxV X := columns_eq (argPair X)

/-- One value a row, as a column. -/
def asColumn {α : Type} (x : S32.Idx → α) : S32x1.Idx → α := broadcastInDim S32x1 ![0] bcast_S32_S32x1_0 x

/-- The column each action names, a negative one counted from the end. -/
def place (A : IVec S32x1 32) : IVec S32x1x1 32 :=
  shapeCast S32x1x1 (select (cmpi .slt A (broadcastInDim S32x1 ![] bcast_S_S32x1 (constantI S_ 32 0#32)))
    (addi A (broadcastInDim S32x1 ![] bcast_S_S32x1 (constantI S_ 32 1000000#32))) A) shapeCasts_S32x1_S32x1x1

/-- Whether it is a column at all. -/
def inside (A : IVec S32x1 32) : IVec S32x1 1 :=
  Host.reduce IntOp.andi (andi (cmpi .sge (place A) (broadcastInDim S32x1x1 ![] bcast_S_S32x1x1 (constantI S_ 32 0#32)))
    (cmpi .sle (place A) (broadcastInDim S32x1x1 ![0, 1, 2] bcast_S1x1x1_S32x1x1_0_1_2
      (broadcastInDim S1x1x1 ![2] bcast_S1_S1x1x1_2 (constantI S1 32 999999#32))))) (constantI S_ 1 1#1) reducesTo_S32x1x1_S32x1_d2 h_S_

/-- The entry of each row that its action names. -/
def taken (X : FVec F S32x1000000 .f32) (A : IVec S32x1 32) : FVec F S32x1 .f32 :=
  select (inside A) (Host.gather gather_S32x1000000_S32x1x1_S32x1_n_1_0_0_1_2_11 X (place A))
    (broadcastInDim S32x1 ![] bcast_S_S32x1 (constant S_ .f32 0x7FC00000#32))

/-- The sampled action of each row, -/
def sampleRef (X : FVec F S32x1000000 .f32) : IVec S32x1 32 := asColumn (argmaxV (addf X noise))

/-- the logarithm of the given action's probability -/
def logpRef (X : FVec F S32x1000000 .f32) (A : IVec S32x1 32) : FVec F S32x1 .f32 :=
  asColumn (Host.reduceAdd (taken (logSoftmax X) A) (constant S_ .f32 0x00000000#32) reducesTo_S32x1_S32_d1 h_S_)

/-- and the most probable action. -/
def modeRef (X : FVec F S32x1000000 .f32) : IVec S32x1 32 := asColumn (argmaxV (Host.exp (logSoftmax X)))

end Cert.ReferenceIdeal

end
-- ==== Proof.RefRun.lean ====
/-
  The reference's run.  Its operations are read in stages: the log-softmax and the probabilities, the places' flat indices, the
  five groups of rounds, the noise, the three results.  Between two stages only the arrays that are read again are named.
-/
module

public import proofs.«01_k».proof.Proof.Line
public import proofs.«01_k».proof.Proof.Ref
public import Idealize.ShloMosaic.Lib.Claim

@[expose] public section

noncomputable section

namespace Cert.ReferenceIdeal

open Idealize.ShloMosaic Idealize.ShloMosaic.StableHlo Idealize.SL.Sem Cert.Line
open Facts₀

variable {F : FTy → Type} [FloatOps F]

local instance : Facts := Gen.facts

/-- What every later stage keeps: the arguments, the log-softmax and the probabilities. -/
structure Kept (X : FVec F S32x1000000 .f32) (A : IVec S32x1 32) (V : Valuation τ sig (Elt F)) : Prop where
  arg0 : V (Proc.devRef .tc main_arg0) = X
  arg1 : V (Proc.devRef .tc main_arg1) = A
  logp : V (Proc.devRef .tc main_v0) = logSoftmax X
  prob : V (Proc.devRef .tc main_v1) = Host.exp (logSoftmax X)

/-- What is known halfway: the generator's bits, read as numbers from one to two, and the number one. -/
structure Halfway (X : FVec F S32x1000000 .f32) (A : IVec S32x1 32) (V : Valuation τ sig (Elt F)) : Prop extends Kept X A V where
  mantissa : V (Proc.devRef .tc main_v42)
    = (bitcastToFloat .f32 (ori (Host.shrui (xori words5.1 words5.2) (splat 9#32)) (splat 1065353216#32)) : FVec F S32x1000000 .f32)
  one : V (Proc.devRef .tc main_cst) = (constant S_ .f32 0x3F800000#32 : FVec F S_ .f32)

/-- What is known at the end: the results, and the arguments as they were. -/
structure Done (X : FVec F S32x1000000 .f32) (A : IVec S32x1 32) (V : Valuation τ sig (Elt F)) : Prop where
  arg0 : V (Proc.devRef .tc main_arg0) = X
  arg1 : V (Proc.devRef .tc main_arg1) = A
  sample : V (Proc.devRef .tc main_v55) = sampleRef X
  logp : V (Proc.devRef .tc main_v58) = logpRef X A
  mode : V (Proc.devRef .tc main_v60) = modeRef X

attribute [local irreducible] fn_log_softmax.body fn_four_rounds.body fn_four_rounds_0.body fn_argmax.body fn_take_along_axis.body

set_option maxHeartbeats 4000000 in
/-- The first half of the reference. -/
theorem part0_ends (X : FVec F S32x1000000 .f32) (A : IVec S32x1 32) (V : Valuation τ sig (Elt F))
    (h0 : V (Proc.devRef .tc main_arg0) = X) (h1 : V (Proc.devRef .tc main_arg1) = A) (d : Dev nD) :
    Ends (main_part0 (F := F) d) V (Halfway X A) := by
  unfold main_part0
  -- the log-softmax and the probabilities
  refine Ends.bind ?_
  rw [fn_log_softmax.body.eq_def _ main_call0]
  repeat (refine Ends.step (by simp) rfl ?_)
  refine Ends.done ?_
  refine Ends.step (by simp) rfl ?_
  generalize hW : HloOp.result _ _ = W
  have k : Kept X A W := by
    subst hW
    refine ⟨?_, ?_, ?_, ?_⟩
    · after_results; exact h0
    · after_results; exact h1
    · after_results; simp -implicitDefEqProofs only [TRef.toBuf, TRef.ofBuf, cast_cast, cast_eq, logSoftmax, shifted, h0]
    · after_results; simp -implicitDefEqProofs only [TRef.toBuf, TRef.ofBuf, cast_cast, cast_eq, logSoftmax, shifted, h0]
  clear hW h0 h1
  -- the flat indices
  repeat (refine Ends.step (by simp) rfl ?_)
  generalize hU : HloOp.result _ _ = U
  have kU : Kept X A U := by
    subst hU
    refine ⟨?_, ?_, ?_, ?_⟩
    · after_results; exact k.arg0
    · after_results; exact k.arg1
    · after_results; exact k.logp
    · after_results; exact k.prob
  have uU : U (Proc.devRef .tc main_v9) = (inject 0#32 42#32 (splat 0#32, flatIndex)).1 := by
    subst hU; after_results; rfl
  have vU : U (Proc.devRef .tc main_v11) = (inject 0#32 42#32 (splat 0#32, flatIndex)).2 := by
    subst hU; after_results; rfl
  clear hU k W
  -- group 1 of the rounds
  refine Ends.bind ?_
  rw [fn_four_rounds.body.eq_def _ _ main_call1]
  repeat (refine Ends.step (by simp) rfl ?_)
  refine Ends.done ?_
  repeat (refine Ends.step (by simp) rfl ?_)
  generalize hW : HloOp.result _ _ = W
  have kW : Kept X A W := by
    subst hW
    refine ⟨?_, ?_, ?_, ?_⟩
    · after_results; exact kU.arg0
    · after_results; exact kU.arg1
    · after_results; exact kU.logp
    · after_results; exact kU.prob
  have uW : W (Proc.devRef .tc main_v14) = words1.1 := by
    subst hW; after_results
    simp -implicitDefEqProofs only [TRef.toBuf, TRef.ofBuf, cast_cast, cast_eq, uU, vU]
    rfl
  have vW : W (Proc.devRef .tc main_v16) = words1.2 := by
    subst hW; after_results
    simp -implicitDefEqProofs only [TRef.toBuf, TRef.ofBuf, cast_cast, cast_eq, uU, vU]
    rfl
  clear hW kU uU vU U
  -- group 2 of the rounds
  refine Ends.bind ?_
  rw [fn_four_rounds_0.body.eq_def _ _ main_call2]
  repeat (refine Ends.step (by simp) rfl ?_)
  refine Ends.done ?_
  repeat (refine Ends.step (by simp) rfl ?_)
  generalize hU : HloOp.result _ _ = U
  have kU : Kept X A U := by
    subst hU
    refine ⟨?_, ?_, ?_, ?_⟩
    · after_results; exact kW.arg0
    · after_results; exact kW.arg1
    · after_results; exact kW.logp
    · after_results; exact kW.prob
  have uU : U (Proc.devRef .tc main_v19) = words2.1 := by
    subst hU; after_results
    simp -implicitDefEqProofs only [TRef.toBuf, TRef.ofBuf, cast_cast, cast_eq, uW, vW]
    rfl
  have vU : U (Proc.devRef .tc main_v21) = words2.2 := by
    subst hU; after_results
    simp -implicitDefEqProofs only [TRef.toBuf, TRef.ofBuf, cast_cast, cast_eq, uW, vW]
    rfl
  clear hU kW uW vW W
  -- group 3 of the rounds
  refine Ends.bind ?_
  rw [fn_four_rounds.body.eq_def _ _ main_call3]
  repeat (refine Ends.step (by simp) rfl ?_)
  refine Ends.done ?_
  repeat (refine Ends.step (by simp) rfl ?_)
  generalize hW : HloOp.result _ _ = W
  have kW : Kept X A W := by
    subst hW
    refine ⟨?_, ?_, ?_, ?_⟩
    · after_results; exact kU.arg0
    · after_results; exact kU.arg1
    · after_results; exact kU.logp
    · after_results; exact kU.prob
  have uW : W (Proc.devRef .tc main_v24) = words3.1 := by
    subst hW; after_results
    simp -implicitDefEqProofs only [TRef.toBuf, TRef.ofBuf, cast_cast, cast_eq, uU, vU]
    rfl
  have vW : W (Proc.devRef .tc main_v26) = words3.2 := by
    subst hW; after_results
    simp -implicitDefEqProofs only [TRef.toBuf, TRef.ofBuf, cast_cast, cast_eq, uU, vU]
    rfl
  clear hW kU uU vU U
  -- group 4 of the rounds
  refine Ends.bind ?_
  rw [fn_four_rounds_0.body.eq_def _ _ main_call4]
  repeat (refine Ends.step (by simp) rfl ?_)
  refine Ends.done ?_
  repeat (refine Ends.step (by simp) rfl ?_)
  generalize hU : HloOp.result _ _ = U
  have kU : Kept X A U := by
    subst hU
    refine ⟨?_, ?_, ?_, ?_⟩
    · after_results; exact kW.arg0
    · after_results; exact kW.arg1
    · after_results; exact kW.logp
    · after_results; exact kW.prob
  have uU : U (Proc.devRef .tc main_v29) = words4.1 := by
    subst hU; after_results
    simp -implicitDefEqProofs only [TRef.toBuf, TRef.ofBuf, cast_cast, cast_eq, uW, vW]
    rfl
  have vU : U (Proc.devRef .tc main_v31) = words4.2 := by
    subst hU; after_results
    simp -implicitDefEqProofs only [TRef.toBuf, TRef.ofBuf, cast_cast, cast_eq, uW, vW]
    rfl
  clear hU kW uW vW W
  -- group 5, and the bits as numbers
  refine Ends.bind ?_
  rw [fn_four_rounds.body.eq_def _ _ main_call5]
  repeat (refine Ends.step (by simp) rfl ?_)
  refine Ends.done ?_
  repeat (refine Ends.step (by simp) rfl ?_)
  refine Ends.done ?_
  generalize hW : HloOp.result _ _ = W
  refine ⟨⟨?_, ?_, ?_, ?_⟩, ?_, ?_⟩ <;> subst hW
  · after_results; exact kU.arg0
  · after_results; exact kU.arg1
  · after_results; exact kU.logp
  · after_results; exact kU.prob
  · after_results
    simp -implicitDefEqProofs only [TRef.toBuf, TRef.ofBuf, cast_cast, cast_eq, uU, vU]
    rfl
  · after_results

set_option maxHeartbeats 4000000 in
/-- The second half. -/
theorem part1_ends (X : FVec F S32x1000000 .f32) (A : IVec S32x1 32) (V : Valuation τ sig (Elt F)) (h : Halfway X A V) (d : Dev nD) :
    Ends (main_part1 (F := F) d) V (Done X A) := by
  unfold main_part1
  -- the noise, and the logits with it
  repeat (refine Ends.step (by simp) rfl ?_)
  generalize hW : HloOp.result _ _ = W
  have kW : Kept X A W := by
    subst hW
    refine ⟨?_, ?_, ?_, ?_⟩
    · after_results; exact h.arg0
    · after_results; exact h.arg1
    · after_results; exact h.logp
    · after_results; exact h.prob
  have uW : W (Proc.devRef .tc main_v53) = addf X noise := by
    subst hW; after_results
    rw [h.arg0, h.mantissa, h.one]; rfl
  clear hW h V
  -- the sampled actions
  refine Ends.bind ?_
  rw [fn_argmax.body.eq_def _ main_call6]
  repeat (refine Ends.step (by simp) rfl ?_)
  refine Ends.done ?_
  refine Ends.step (by simp) rfl ?_
  generalize hU : HloOp.result _ _ = U
  have kU : Kept X A U := by
    subst hU
    refine ⟨?_, ?_, ?_, ?_⟩
    · after_results; exact kW.arg0
    · after_results; exact kW.arg1
    · after_results; exact kW.logp
    · after_results; exact kW.prob
  have uU : U (Proc.devRef .tc main_v55) = sampleRef X := by
    subst hU; after_results
    simp -implicitDefEqProofs only [TRef.toBuf, TRef.ofBuf, cast_cast, cast_eq, uW]
    exact congrArg asColumn (argmaxV_seen (addf X noise))
  clear hU kW uW W
  -- the logarithms of the actions' probabilities
  refine Ends.bind ?_
  rw [fn_take_along_axis.body.eq_def _ _ main_call7]
  repeat (refine Ends.step (by simp) rfl ?_)
  refine Ends.done ?_
  repeat (refine Ends.step (by simp) rfl ?_)
  generalize hW : HloOp.result _ _ = W
  have kW : Kept X A W := by
    subst hW
    refine ⟨?_, ?_, ?_, ?_⟩
    · after_results; exact kU.arg0
    · after_results; exact kU.arg1
    · after_results; exact kU.logp
    · after_results; exact kU.prob
  have sW : W (Proc.devRef .tc main_v55) = sampleRef X := by
    subst hW; after_results; exact uU
  have lW : W (Proc.devRef .tc main_v58) = logpRef X A := by
    subst hW; after_results
    simp -implicitDefEqProofs only [TRef.toBuf, TRef.ofBuf, cast_cast, cast_eq, kU.logp, kU.arg1, logpRef, asColumn, taken, inside, place]
    rfl
  clear hW kU uU U
  -- the most probable actions
  refine Ends.bind ?_
  rw [fn_argmax.body.eq_def _ main_call8]
  repeat (refine Ends.step (by simp) rfl ?_)
  refine Ends.done ?_
  refine Ends.step (by simp) rfl ?_
  refine Ends.done ?_
  refine ⟨?_, ?_, ?_, ?_, ?_⟩
  · after_results; exact kW.arg0
  · after_results; exact kW.arg1
  · after_results; exact sW
  · after_results; exact lW
  · after_results
    simp -implicitDefEqProofs only [TRef.toBuf, TRef.ofBuf, cast_cast, cast_eq, kW.prob]
    exact congrArg asColumn (argmaxV_seen (Host.exp (logSoftmax X)))

/-- Every run of the reference ends with its three results at their values, with the arguments unchanged and every semaphore
    counter at zero. -/
theorem run_values (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_v55) = sampleRef (F := F) (m ((c.tc : Thread nD τ).loc main_arg0))
        ∧ r.2.mem ((c.tc : Thread nD τ).loc main_v58)
          = logpRef (F := F) (m ((c.tc : Thread nD τ).loc main_arg0)) (m ((c.tc : Thread nD τ).loc main_arg1))
        ∧ r.2.mem ((c.tc : Thread nD τ).loc main_v60) = modeRef (F := F) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine (θ_run (defs (F := F)) _ _).mono ?_ (run_of_ends (defs (F := F)) (main (F := F)) (by decide) (by decide) m ρ
    (fun d => Done (m ((d.tc : Thread nD τ).loc main_arg0)) (m ((d.tc : Thread nD τ).loc main_arg1))) ?_)
  · intro r h
    refine ⟨fun c => ?_, sem_eq_zero_of_no_sems (by decide) r.2⟩
    obtain ⟨V, hV, hr⟩ := h c
    exact ⟨(hr main_v55).trans hV.sample, (hr main_v58).trans hV.logp, (hr main_v60).trans hV.mode,
      (hr main_arg0).trans hV.arg0, (hr main_arg1).trans hV.arg1⟩
  · intro d
    unfold main
    refine Ends.bind (Ends.mono (part0_ends _ _ _ rfl rfl d) fun W hW => part1_ends _ _ W hW d)

/-- The reference's frame. -/
theorem frame_all (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run (defs (F := F)) _ _).mono (fun _ h => ⟨fun c => (h.1 c).2.2.2, h.2⟩) (run_values m ρ)

end Cert.ReferenceIdeal

end
-- ==== Proof.First.lean ====
/-
  The first column at which a row of numbers is largest, and a sum of a row's entries taken 256 at a time.
-/
module

public import Mathlib.Data.EReal.Basic
public import Mathlib.Algebra.BigOperators.Fin
public import Mathlib.Algebra.BigOperators.Intervals

@[expose] public section

namespace Cert.First

variable {α : Type} [LinearOrder α]

/-- `c` is the first of the columns below `V` at which `f` is largest. -/
def FirstMax (V : ℕ) (f : ℕ → α) (c : ℕ) : Prop := c < V ∧ (∀ j < V, f j ≤ f c) ∧ ∀ j < c, f j < f c

/-- There is only one. -/
theorem FirstMax.unique {V : ℕ} {f : ℕ → α} {c d : ℕ} (hc : FirstMax V f c) (hd : FirstMax V f d) : c = d := by
  rcases lt_trichotomy c d with h | h | h
  · exact absurd (hd.2.2 c h) (not_lt.mpr (hc.2.1 d hd.1))
  · exact h
  · exact absurd (hc.2.2 d h) (not_lt.mpr (hd.2.1 c hc.1))

/-- There is one. -/
theorem exists_firstMax {V : ℕ} (hV : 0 < V) (f : ℕ → α) : ∃ c, FirstMax V f c := by
  induction V with
  | zero => exact absurd hV (lt_irrefl 0)
  | succ V ih =>
    rcases Nat.eq_zero_or_pos V with rfl | hV
    · refine ⟨0, Nat.one_pos, fun j hj => ?_, fun j hj => absurd hj (Nat.not_lt_zero j)⟩
      rw [Nat.lt_one_iff.mp hj]
    · obtain ⟨c, h1, h2, h3⟩ := ih hV
      rcases lt_or_ge (f c) (f V) with h | h
      · refine ⟨V, Nat.lt_succ_self V, fun j hj => ?_, fun j hj => (h2 j hj).trans_lt h⟩
        rcases Nat.lt_succ_iff_lt_or_eq.mp hj with hj | rfl
        · exact (h2 j hj).trans h.le
        · exact le_rfl
      · refine ⟨c, Nat.lt_succ_of_lt h1, fun j hj => ?_, h3⟩
        rcases Nat.lt_succ_iff_lt_or_eq.mp hj with hj | rfl
        · exact h2 j hj
        · exact h

/-- Rows whose entries compare alike are largest at the same column. -/
theorem FirstMax.transfer {β : Type} [LinearOrder β] {V : ℕ} {f : ℕ → α} {g : ℕ → β} {c : ℕ} (h : FirstMax V f c)
    (hfg : ∀ i < V, ∀ j < V, f i < f j → g i < g j) (hle : ∀ i < V, ∀ j < V, f i ≤ f j → g i ≤ g j) : FirstMax V g c :=
  ⟨h.1, fun j hj => hle j hj c h.1 (h.2.1 j hj), fun j hj => hfg j (hj.trans h.1) c h.1 (h.2.2 j hj)⟩

/-- Rows that agree on their columns are largest at the same column. -/
theorem FirstMax.congr {V : ℕ} {f g : ℕ → α} {c : ℕ} (h : FirstMax V f c) (hfg : ∀ i < V, f i = g i) : FirstMax V g c :=
  h.transfer (fun i hi j hj e => by rwa [← hfg i hi, ← hfg j hj]) (fun i hi j hj e => by rwa [← hfg i hi, ← hfg j hj])

/-- The sum over `n` chunks of `b` lanes each, taken lane by lane, is the sum over the `b n` columns. -/
theorem sum_lanes {M : Type} [AddCommMonoid M] (b n : ℕ) (f : ℕ → M) :
    ∑ l : Fin b, ∑ i ∈ Finset.range n, f (b * i + l.val) = ∑ c ∈ Finset.range (b * n), f c := by
  rw [Finset.sum_comm]
  induction n with
  | zero => simp
  | succ n ih => rw [Finset.sum_range_succ, ih, Nat.mul_succ, Finset.sum_range_add, Finset.sum_range fun x => f (b * n + x)]

end Cert.First
-- ==== Proof.Words.lean ====
/-
  The generator on single words, and the number that the noise makes of a word.  Kernel and reference compute both entry by
  entry (`KernelNoise`, `RefNoise`).
-/
module

public import Idealize.ShloMosaic.PureOps.Ideal.Laws

@[expose] public section

noncomputable section

namespace Cert.Words

open Idealize.ShloMosaic

/-- One round: `r` the rotation to the left, `l` the rest of the word. -/
def turn1 (r l : BitVec 32) (p : BitVec 32 × BitVec 32) : BitVec 32 × BitVec 32 :=
  (p.1 + p.2, (p.1 + p.2) ^^^ ((p.2 <<< r) ||| (p.2 >>> l)))

/-- The two groups of four rounds, -/
def groupA (p : BitVec 32 × BitVec 32) : BitVec 32 × BitVec 32 := turn1 6#32 26#32 (turn1 26#32 6#32 (turn1 15#32 17#32 (turn1 13#32 19#32 p)))
def groupB (p : BitVec 32 × BitVec 32) : BitVec 32 × BitVec 32 := turn1 24#32 8#32 (turn1 16#32 16#32 (turn1 29#32 3#32 (turn1 17#32 15#32 p)))

/-- and the key words added after each. -/
def key1 (a b : BitVec 32) (p : BitVec 32 × BitVec 32) : BitVec 32 × BitVec 32 := (p.1 + a, p.2 + b)

/-- The two words after all five groups, from counter `c`, -/
def words (c : BitVec 32) : BitVec 32 × BitVec 32 :=
  key1 466689008#32 5#32 (groupA (key1 42#32 466689012#32 (groupB (key1 0#32 45#32 (groupA (key1 466689008#32 2#32 (groupB
    (key1 42#32 466689009#32 (groupA (0#32, c + 42#32))))))))))

/-- and the random word made of them. -/
def word (c : BitVec 32) : BitVec 32 := (words c).1 ^^^ (words c).2

/-- The number in [1, 2) whose fraction is the word's upper bits. -/
def mantissa (w : BitVec 32) : EReal := Ideal.ofBits .f32 ((w >>> 9#32) ||| 1065353216#32)

/-- The least normal number. -/
def tiny : EReal := Ideal.ofBits .f32 0x00800000#32

/-- The uniform number, -/
def uniform (w : BitVec 32) : EReal := (mantissa w - Ideal.ofBits .f32 0x3F800000#32) + tiny

/-- and the noise subtracted from a logit: `log (-log u)`. -/
def gumbel (w : BitVec 32) : EReal := Ideal.log (0 - Ideal.log (uniform w))

theorem one_eq : Ideal.ofBits .f32 0x3F800000#32 = ((1 : ℝ) : EReal) := by
  simp [Ideal.ofBits, Ideal.ieee, -EReal.coe_mul]; norm_num

theorem tiny_eq : tiny = (((2 : ℝ) ^ (-126 : ℤ) : ℝ) : EReal) := by
  unfold tiny
  simp [Ideal.ofBits, Ideal.ieee, -EReal.coe_mul]
  norm_num

theorem mantissa_eq (w : BitVec 32) : ∃ n : ℕ, mantissa w = (((2 ^ 23 + n : ℕ) * (2 : ℝ) ^ (-23 : ℤ) : ℝ) : EReal) := by
  have hs : ((w >>> 9#32) ||| 1065353216#32).toNat >>> 23 = 127 := by
    have hw : (w >>> 9#32).toNat >>> 23 = 0 := by
      have := w.isLt
      simp only [BitVec.ushiftRight_eq', BitVec.toNat_ushiftRight, BitVec.toNat_ofNat, Nat.shiftRight_eq_div_pow]
      rw [show 9 % 2 ^ 32 = 9 from rfl]
      omega
    rw [BitVec.toNat_or, Nat.shiftRight_or_distrib, hw]
    rfl
  have h2 : (((w >>> 9#32) ||| 1065353216#32).extractLsb' 23 8) = 127#8 :=
    BitVec.eq_of_toNat_eq (by rw [BitVec.extractLsb'_toNat, hs]; rfl)
  have h1 : (((w >>> 9#32) ||| 1065353216#32).extractLsb' 31 1) = 0#1 :=
    BitVec.eq_of_toNat_eq (by rw [BitVec.extractLsb'_toNat, show 31 = 23 + 8 from rfl, Nat.shiftRight_add, hs]; rfl)
  refine ⟨(((w >>> 9#32) ||| 1065353216#32).extractLsb' 0 23).toNat, ?_⟩
  unfold mantissa Ideal.ofBits Ideal.ieee
  simp only [h1, h2]
  norm_num

theorem uniform_eq (w : BitVec 32) : ∃ r : ℝ, uniform w = (r : EReal) ∧ 0 < r ∧ tiny ≤ uniform w := by
  obtain ⟨n, hn⟩ := mantissa_eq w
  have h0 : (0 : ℝ) < (2 : ℝ) ^ (-126 : ℤ) := by positivity
  have h1 : (0 : ℝ) ≤ (2 ^ 23 + n : ℕ) * (2 : ℝ) ^ (-23 : ℤ) - 1 := by
    rw [Nat.cast_add, add_mul]
    have : ((2 ^ 23 : ℕ) : ℝ) * (2 : ℝ) ^ (-23 : ℤ) = 1 := by norm_num
    rw [this]
    have : (0 : ℝ) ≤ n * (2 : ℝ) ^ (-23 : ℤ) := by positivity
    linarith
  have e : uniform w = ((((2 ^ 23 + n : ℕ) * (2 : ℝ) ^ (-23 : ℤ) - 1) + (2 : ℝ) ^ (-126 : ℤ) : ℝ) : EReal) := by
    unfold uniform
    rw [hn, one_eq, tiny_eq, ← EReal.coe_sub, ← EReal.coe_add]
  refine ⟨_, e, by linarith, ?_⟩
  rw [e, tiny_eq, EReal.coe_le_coe_iff]
  linarith

/-- The maximum with the least normal number changes nothing. -/
theorem max_tiny (w : BitVec 32) : max tiny (uniform w) = uniform w := max_eq_right (uniform_eq w).choose_spec.2.2

/-- The noise is never +∞. -/
theorem gumbel_ne_top (w : BitVec 32) : gumbel w ≠ ⊤ := by
  obtain ⟨r, hr, h0, -⟩ := uniform_eq w
  have h1 : Ideal.log (uniform w) = ((Real.log r : ℝ) : EReal) := by
    rw [hr]; show (if r ≤ 0 then (⊥ : EReal) else _) = _
    rw [if_neg (not_le.mpr h0)]
  unfold gumbel
  rw [h1, ← EReal.coe_zero, ← EReal.coe_sub]
  show (if _ ≤ (0 : ℝ) then (⊥ : EReal) else _) ≠ ⊤
  split
  · exact bot_ne_top
  · exact EReal.coe_ne_top _

end Cert.Words

end
-- ==== Proof.KernelNoise.lean ====
/-
  The kernel's random words and noise, entry by entry.
-/
module

public import proofs.«01_k».proof.Proof.Body
public import proofs.«01_k».proof.Proof.Words

@[expose] public section

noncomputable section

namespace Cert.KernelIdeal

open Idealize.ShloMosaic Cert.Words

/-- A pair of arrays of words at one index. -/
def at2 (p : IVec S32x256 32 × IVec S32x256 32) (x : S32x256.Idx) : BitVec 32 × BitVec 32 := (p.1 x, p.2 x)

theorem rotV_apply (r l : BitVec 32) (hr : r.toNat < 32) (hl : l.toNat < 32) (v : IVec S32x256 32) (x : S32x256.Idx) :
    rotV r l v x = (v x <<< r) ||| (v x >>> l) := by
  show IntOp.ori (IntOp.shli .vector (v x) r) (IntOp.shrui .vector (v x) l) = _
  unfold IntOp.ori IntOp.shli IntOp.shrui
  rw [if_pos hr, if_pos hl]

theorem at2_roundV (r l : BitVec 32) (hr : r.toNat < 32) (hl : l.toNat < 32) (p : IVec S32x256 32 × IVec S32x256 32) (x : S32x256.Idx) :
    at2 (roundV r l p) x = turn1 r l (at2 p x) := by
  have h : at2 (roundV r l p) x = (p.1 x + p.2 x, rotV r l p.2 x ^^^ (p.1 x + p.2 x)) := rfl
  rw [h, rotV_apply r l hr hl, BitVec.xor_comm]; rfl

theorem at2_roundsA (p : IVec S32x256 32 × IVec S32x256 32) (x : S32x256.Idx) : at2 (roundsA p) x = groupA (at2 p x) := by
  unfold roundsA groupA
  rw [at2_roundV _ _ (by decide) (by decide), at2_roundV _ _ (by decide) (by decide), at2_roundV _ _ (by decide) (by decide),
    at2_roundV _ _ (by decide) (by decide)]

theorem at2_roundsB (p : IVec S32x256 32 × IVec S32x256 32) (x : S32x256.Idx) : at2 (roundsB p) x = groupB (at2 p x) := by
  unfold roundsB groupB
  rw [at2_roundV _ _ (by decide) (by decide), at2_roundV _ _ (by decide) (by decide), at2_roundV _ _ (by decide) (by decide),
    at2_roundV _ _ (by decide) (by decide)]

/-- The first round's addition of zero makes no difference. -/
theorem at2_rounds0 (y : IVec S32x256 32) (x : S32x256.Idx) : at2 (rounds0 y) x = groupA (0#32, y x) := by
  have h : at2 (y, xori (rotV 13#32 19#32 y) y) x = turn1 13#32 19#32 (0#32, y x) := by
    have h : at2 (y, xori (rotV 13#32 19#32 y) y) x = (y x, rotV 13#32 19#32 y x ^^^ y x) := rfl
    rw [h, rotV_apply _ _ (by decide) (by decide), BitVec.xor_comm]
    unfold turn1
    rw [BitVec.zero_add]
  unfold rounds0 groupA
  rw [at2_roundV _ _ (by decide) (by decide), at2_roundV _ _ (by decide) (by decide), at2_roundV _ _ (by decide) (by decide), h]

theorem at2_keyV (a b : BitVec 32) (p : IVec S32x256 32 × IVec S32x256 32) (x : S32x256.Idx) : at2 (keyV a b p) x = key1 a b (at2 p x) := rfl

theorem at2_third (p : IVec S32x256 32 × IVec S32x256 32) (x : S32x256.Idx) :
    at2 (p.1, addi p.2 (broadcast S32x256 45#32)) x = key1 0#32 45#32 (at2 p x) := by
  unfold key1 at2
  rw [BitVec.add_zero]; rfl

theorem xori_at2 (p : IVec S32x256 32 × IVec S32x256 32) (x : S32x256.Idx) : xori p.1 p.2 x = (at2 p x).1 ^^^ (at2 p x).2 := rfl

/-- The random word of each counter. -/
theorem wordV_apply (cnt : IVec S32x256 32) (x : S32x256.Idx) : wordV cnt x = word (cnt x) := by
  unfold wordV word words
  rw [xori_at2, at2_keyV, at2_roundsA, at2_keyV, at2_roundsB, at2_third, at2_roundsA, at2_keyV, at2_roundsB, at2_keyV, at2_rounds0]
  rfl

/-- The noise of each counter. -/
theorem noiseV_apply (w : IVec S32x256 32) (x : S32x256.Idx) : noiseV (F := Ideal) w x = gumbel (w x) := by
  have h : shrui w (broadcast S32x256 9#32) x = w x >>> 9#32 := by
    show IntOp.shrui .vector (w x) 9#32 = _
    unfold IntOp.shrui
    rw [if_pos (by decide)]
  have h' : noiseV (F := Ideal) w x = Ideal.log (Ideal.ofBits .f32 0x00000000#32
      - Ideal.log ((Ideal.ofBits .f32 (shrui w (broadcast S32x256 9#32) x ||| 1065353216#32) - Ideal.ofBits .f32 0x3F800000#32)
        + Ideal.ofBits .f32 0x00800000#32)) := rfl
  rw [h', h, Ideal.ofBits_zero_f32]
  rfl

end Cert.KernelIdeal

end
-- ==== Proof.Lanes.lean ====
/-
  What each lane carries after `q` chunks.  The blocks' sweeps are one recursion over the 3907 chunks of 256 columns that cover
  the array; lane `l` of row `r` meets in chunk `q` the column `256 q + l`, and carries the sum of the exponentials, the largest
  entry with the counter it was first met at, and the entry whose counter is the target.
-/
module

public import proofs.«01_k».proof.Proof.Run
public import proofs.«01_k».proof.Proof.First
public import proofs.«01_k».proof.Proof.KernelNoise
public import Idealize.ShloMosaic.PureOps.Ideal.Laws

@[expose] public section

noncomputable section

namespace Cert.KernelIdeal

open Idealize.ShloMosaic Cert.First Cert.Words
open Facts₀

local instance : Facts := Gen.facts

section Chunks
variable {F : FTy → Type} [FloatOps F]

/-- The logits of chunk `q`, with -∞ past the last column. -/
def colTile (L : FVec F S32x1000000 .f32) (q : ℕ) : FVec F S32x256 .f32 := fun x =>
  if h : 256 * q + (x 1).val < 1000000 then L (Shape.pair (d := ![32, 1000000]) (x 0) ⟨256 * q + (x 1).val, h⟩)
  else Scalar.ofBits .f32 0xFF800000#32

/-- The counters of chunk `q`. -/
def cntTile (q : ℕ) : IVec S32x256 32 := fun x => BitVec.ofNat 32 (1000000 * (x 0).val + (256 * q + (x 1).val))

/-- What is carried before chunk `q`. -/
def chunks (L : FVec F S32x1000000 .f32) (A : IVec S32x1 32) : ℕ → Acc F
  | 0 => acc0
  | q + 1 => chunk (addi A (firstCol rowLanes)) (cntTile q) (colTile L q) (chunks L A q)

theorem chunks_zero (L : FVec F S32x1000000 .f32) (A : IVec S32x1 32) : chunks L A 0 = acc0 := rfl
theorem chunks_succ (L : FVec F S32x1000000 .f32) (A : IVec S32x1 32) (q : ℕ) :
    chunks L A (q + 1) = chunk (addi A (firstCol rowLanes)) (cntTile q) (colTile L q) (chunks L A q) := rfl

theorem rowLanes_apply (x : S32x256.Idx) : rowLanes x = BitVec.ofNat 32 (1000000 * (x 0).val + (x 1).val) := by
  have h : rowLanes x = BitVec.ofNat 32 (x 0).val * 1000000#32 + BitVec.ofNat 32 (x 1).val := by
    show iota .tc S32x256 32 [0] iota_S32x256_d0_w32 x * _ + iota .tc S32x256 32 [1] iota_S32x256_d1_w32 x = _
    rw [iota_single_apply, iota_single_apply]; rfl
  rw [h, BitVec.ofNat_add, BitVec.ofNat_mul, BitVec.mul_comm]

theorem counters_eq (t k : ℕ) :
    counters rowLanes (Scalar.addi (blockBase t) (BitVec.ofNat 32 (256 * k))) = cntTile (64 * t + k) := by
  funext x
  show rowLanes x + (BitVec.ofNat 32 t * BitVec.ofNat 32 16384 + BitVec.ofNat 32 (256 * k)) = _
  unfold cntTile
  rw [rowLanes_apply, ← BitVec.ofNat_mul, ← BitVec.ofNat_add, ← BitVec.ofNat_add]
  exact congrArg (BitVec.ofNat 32) (by ring)

theorem tileOf_eq (L : FVec F S32x1000000 .f32) (t k : ℕ) : tileOf L t k = colTile L (64 * t + k) := by
  funext x
  have e : 16384 * t + 256 * k + (x 1).val = 256 * (64 * t + k) + (x 1).val := by ring
  unfold tileOf colTile
  simp only [e]

/-- A sweep over `n` chunks of a block takes the recursion on by `n`. -/
theorem sweepV_chunks (L : FVec F S32x1000000 .f32) (A : IVec S32x1 32) (t n k : ℕ) :
    sweepV (tileOf L t) (blockBase t) rowLanes (addi A (firstCol rowLanes)) n k (chunks L A (64 * t + k)) = chunks L A (64 * t + k + n) := by
  induction n generalizing k with
  | zero => rfl
  | succ n ih =>
    rw [sweepV, counters_eq, tileOf_eq, ← chunks_succ]
    exact (ih (k + 1)).trans (congrArg (chunks L A) (by ring))

theorem accAfter_eq (L : FVec F S32x1000000 .f32) (A : IVec S32x1 32) (n : ℕ) (hn : n ≤ 61) : accAfter L A n = chunks L A (64 * n) := by
  induction n with
  | zero => rfl
  | succ n ih =>
    rw [acc_step L A n (by omega), ih (by omega)]
    exact (sweepV_chunks L A n 64 0).trans (congrArg (chunks L A) (by ring))

/-- The whole kernel runs through 3907 chunks. -/
theorem accAfter_all (L : FVec F S32x1000000 .f32) (A : IVec S32x1 32) (N : ℕ) (hN : N = 3907) : accAfter L A 62 = chunks L A N := by
  rw [acc_last L A 61 rfl, accAfter_eq L A 61 le_rfl]
  exact (sweepV_chunks L A 61 3 0).trans (congrArg (chunks L A) hN.symm)

end Chunks

/-- A row's entries, with -∞ past the last column. -/
def rowOf (L : FVec Ideal S32x1000000 .f32) (r : Fin 32) (c : ℕ) : EReal :=
  if h : c < 1000000 then L (Shape.pair (d := ![32, 1000000]) r ⟨c, h⟩) else ⊥

theorem rowOf_of_lt (L : FVec Ideal S32x1000000 .f32) (r : Fin 32) (c : ℕ) (h : c < 1000000) :
    rowOf L r c = L (Shape.pair (d := ![32, 1000000]) r ⟨c, h⟩) := dif_pos h

theorem rowOf_of_not_lt (L : FVec Ideal S32x1000000 .f32) (r : Fin 32) (c : ℕ) (h : ¬ c < 1000000) : rowOf L r c = ⊥ := dif_neg h

theorem ofBits_bot : Ideal.ofBits .f32 0xFF800000#32 = ⊥ := by simp [Ideal.ofBits, Ideal.ieee]

theorem scalar_ofBits {F : FTy → Type} [FloatOps F] (w : BitVec 32) : Scalar.ofBits (F := F) .f32 w = FloatOps.ofBits .f32 w := rfl

theorem scalar_bot : Scalar.ofBits (F := Ideal) .f32 0xFF800000#32 = (⊥ : EReal) := (scalar_ofBits _).trans ofBits_bot

theorem scalar_zero : Scalar.ofBits (F := Ideal) .f32 0x00000000#32 = (0 : EReal) := (scalar_ofBits _).trans Ideal.ofBits_zero_f32

variable (L : FVec Ideal S32x1000000 .f32) (A : IVec S32x1 32)

theorem colTile_apply (q : ℕ) (r : Fin 32) (l : Fin 256) :
    colTile L q (Shape.pair (d := ![32, 256]) r l) = rowOf L r (256 * q + l.val) := by
  by_cases h : 256 * q + l.val < 1000000
  · rw [rowOf_of_lt L r _ h]; exact dif_pos h
  · rw [rowOf_of_not_lt L r _ h]; exact (dif_neg h).trans scalar_bot

/-- The counter of column `c` of row `r`. -/
def cntOf (r : Fin 32) (c : ℕ) : BitVec 32 := BitVec.ofNat 32 (1000000 * r.val + c)

theorem cntTile_apply (q : ℕ) (r : Fin 32) (l : Fin 256) :
    cntTile q (Shape.pair (d := ![32, 256]) r l) = cntOf r (256 * q + l.val) := rfl

/-- A row's perturbed entries. -/
def perturbed (r : Fin 32) (c : ℕ) : EReal := rowOf L r c - gumbel (word (cntOf r c))

theorem select_gt (a b : EReal) {α : Type} (u v : α) :
    Scalar.select (FloatOps.cmpf (F := Ideal) (φ := .f32) .ogt a b) u v = if b < a then u else v := by
  rw [Ideal.cmpf_def]
  unfold Scalar.select Ideal.cmp
  by_cases h : b < a
  · simp [h]
  · simp [h]

section OneChunk
variable (tgt : IVec S32x1 32) (cnt : IVec S32x256 32) (X : FVec Ideal S32x256 .f32) (a : Acc Ideal) (x : S32x256.Idx)

theorem pick_apply {α : Type} (y v : FVec Ideal S32x256 .f32) (p q : S32x256.Idx → α) :
    select (cmpf .ogt y v) p q x = if v x < y x then p x else q x := select_gt (y x) (v x) (p x) (q x)

theorem shift_apply : subf X (noiseV (wordV cnt)) x = X x - gumbel (word (cnt x)) := by
  have h : ∀ n : FVec Ideal S32x256 .f32, subf X n x = X x - n x := fun n => rfl
  rw [h, noiseV_apply, wordV_apply]

theorem chunk_s : (chunk tgt cnt X a).s x = a.s x + Ideal.exp (X x) := rfl

theorem chunk_vm : (chunk tgt cnt X a).vm x = if a.vm x < X x then X x else a.vm x := pick_apply x X a.vm X a.vm

theorem chunk_vi : (chunk tgt cnt X a).vi x = if a.vm x < X x then cnt x else a.vi x := pick_apply x X a.vm cnt a.vi

theorem chunk_gm : (chunk tgt cnt X a).gm x
    = if a.gm x < X x - gumbel (word (cnt x)) then X x - gumbel (word (cnt x)) else a.gm x := by
  rw [← shift_apply cnt X x]; exact pick_apply x _ a.gm _ a.gm

theorem chunk_gi : (chunk tgt cnt X a).gi x = if a.gm x < X x - gumbel (word (cnt x)) then cnt x else a.gi x := by
  rw [← shift_apply cnt X x]; exact pick_apply x _ a.gm cnt a.gi

theorem chunk_av : (chunk tgt cnt X a).av x
    = if cnt x = broadcastTo S32x256 tgt broadcasts_S32x1_S32x256 x then X x else a.av x := by
  have h : ∀ b : IVec S32x256 32, select (cmpi .eq cnt b) X a.av x = if cnt x = b x then X x else a.av x := fun b => by
    show (if BitVec.ofBool (cnt x == b x) = 1#1 then X x else a.av x) = _
    by_cases e : cnt x = b x
    · simp [e]
    · rw [show (cnt x == b x) = false from beq_eq_false_iff_ne.mpr e, if_neg e]; rfl
  exact h _

end OneChunk

/-- What a lane's pair of a value and a counter says of the `q` entries `f` met so far: the value is the largest, the counter
    that of the first entry as large. -/
def Lead (f : ℕ → EReal) (cnt : ℕ → BitVec 32) (q : ℕ) (v : EReal) (k : BitVec 32) : Prop :=
  (∀ i < q, f i ≤ v) ∧ (v = ⊥ ∨ ∃ i < q, v = f i ∧ k = cnt i ∧ ∀ j < i, f j < f i)

theorem Lead.step {f : ℕ → EReal} {cnt : ℕ → BitVec 32} {q : ℕ} {v : EReal} {k : BitVec 32} (h : Lead f cnt q v k) :
    Lead f cnt (q + 1) (if v < f q then f q else v) (if v < f q then cnt q else k) := by
  by_cases hv : v < f q
  · rw [if_pos hv, if_pos hv]
    refine ⟨fun i hi => ?_, .inr ⟨q, q.lt_succ_self, rfl, rfl, fun j hj => (h.1 j hj).trans_lt hv⟩⟩
    rcases Nat.lt_succ_iff_lt_or_eq.mp hi with hi | rfl
    · exact (h.1 i hi).trans hv.le
    · exact le_rfl
  · rw [if_neg hv, if_neg hv]
    refine ⟨fun i hi => ?_, h.2.imp_right fun ⟨i, hi, e⟩ => ⟨i, hi.trans q.lt_succ_self, e⟩⟩
    rcases Nat.lt_succ_iff_lt_or_eq.mp hi with hi | rfl
    · exact h.1 i hi
    · exact not_lt.mp hv

/-- The lane's sum. -/
theorem chunks_s (q : ℕ) (r : Fin 32) (l : Fin 256) :
    (chunks L A q).s (Shape.pair (d := ![32, 256]) r l) = ∑ i ∈ Finset.range q, Ideal.exp (rowOf L r (256 * i + l.val)) := by
  induction q with
  | zero => exact scalar_zero
  | succ q ih => rw [Finset.sum_range_succ, ← ih, ← colTile_apply, chunks_succ, chunk_s]

/-- The lane's largest logit and its counter, -/
theorem chunks_v (q : ℕ) (r : Fin 32) (l : Fin 256) :
    Lead (fun i => rowOf L r (256 * i + l.val)) (fun i => cntOf r (256 * i + l.val)) q
      ((chunks L A q).vm (Shape.pair (d := ![32, 256]) r l)) ((chunks L A q).vi (Shape.pair (d := ![32, 256]) r l)) := by
  induction q with
  | zero => exact ⟨fun i hi => absurd hi (Nat.not_lt_zero i), .inl scalar_bot⟩
  | succ q ih =>
    rw [chunks_succ, chunk_vm, chunk_vi, colTile_apply, cntTile_apply]
    exact ih.step

/-- and its largest perturbed logit and that one's. -/
theorem chunks_g (q : ℕ) (r : Fin 32) (l : Fin 256) :
    Lead (fun i => perturbed L r (256 * i + l.val)) (fun i => cntOf r (256 * i + l.val)) q
      ((chunks L A q).gm (Shape.pair (d := ![32, 256]) r l)) ((chunks L A q).gi (Shape.pair (d := ![32, 256]) r l)) := by
  induction q with
  | zero => exact ⟨fun i hi => absurd hi (Nat.not_lt_zero i), .inl scalar_bot⟩
  | succ q ih =>
    rw [chunks_succ, chunk_gm, chunk_gi, colTile_apply, cntTile_apply]
    exact ih.step

theorem spread_apply {α : Type} (t : S32x1.Idx → α) (r : Fin 32) (l : Fin 256) :
    broadcastTo S32x256 t broadcasts_S32x1_S32x256 (Shape.pair (d := ![32, 256]) r l) = t (Shape.pair (d := ![32, 1]) r (0 : Fin 1)) :=
  broadcastTo_apply t broadcasts_S32x1_S32x256 _ _ fun a => by
    match a with
    | ⟨0, _⟩ => rfl
    | ⟨1, _⟩ => rfl

/-- A row's base. -/
theorem base_apply (r : Fin 32) : firstCol rowLanes (Shape.pair (d := ![32, 1]) r (0 : Fin 1)) = cntOf r 0 := by
  have h : firstCol rowLanes (Shape.pair (d := ![32, 1]) r (0 : Fin 1)) = rowLanes (Shape.pair (d := ![32, 256]) r (0 : Fin 256)) := by
    unfold firstCol
    refine congrArg rowLanes (funext fun a => Fin.ext ?_)
    rw [Rect.emb_apply]
    match a with
    | ⟨0, _⟩ => exact (Nat.zero_add _).trans (Nat.one_mul _)
    | ⟨1, _⟩ => rfl
  rw [h, rowLanes_apply]; rfl

/-- The counter of the row's action. -/
theorem target_apply (r : Fin 32) (a : ℕ) (hA : A (Shape.pair (d := ![32, 1]) r (0 : Fin 1)) = BitVec.ofNat 32 a) :
    addi A (firstCol rowLanes) (Shape.pair (d := ![32, 1]) r (0 : Fin 1)) = cntOf r a := by
  show A _ + firstCol rowLanes _ = _
  rw [hA, base_apply]
  unfold cntOf
  rw [← BitVec.ofNat_add]
  exact congrArg (BitVec.ofNat 32) (by omega)

theorem cntOf_toNat (r : Fin 32) (c : ℕ) (hc : c < 2000000) : (cntOf r c).toNat = 1000000 * r.val + c := by
  unfold cntOf
  have := r.isLt
  rw [BitVec.toNat_ofNat, Nat.mod_eq_of_lt (by omega)]

/-- The entry at the row's action is on one lane, once its chunk has been met. -/
theorem chunks_av (r : Fin 32) (a : ℕ) (ha : a < 1000000) (hA : A (Shape.pair (d := ![32, 1]) r (0 : Fin 1)) = BitVec.ofNat 32 a)
    (q : ℕ) (hq : q ≤ 3907) (l : Fin 256) :
    (chunks L A q).av (Shape.pair (d := ![32, 256]) r l) = if a / 256 < q ∧ a % 256 = l.val then rowOf L r a else 0 := by
  induction q with
  | zero =>
    rw [if_neg (fun h => Nat.not_lt_zero _ h.1)]; exact scalar_zero
  | succ q ih =>
    have hl := l.isLt
    rw [chunks_succ, chunk_av, spread_apply, target_apply A r a hA, cntTile_apply, colTile_apply, ih (by omega)]
    have he : cntOf r (256 * q + l.val) = cntOf r a ↔ 256 * q + l.val = a := by
      refine ⟨fun h => ?_, fun h => by rw [h]⟩
      have := congrArg BitVec.toNat h
      rw [cntOf_toNat r _ (by omega), cntOf_toNat r _ (by omega)] at this
      omega
    by_cases h : 256 * q + l.val = a
    · rw [if_pos (he.mpr h), if_pos (by omega), h]
    · rw [if_neg (fun e => h (he.mp e))]
      by_cases h1 : a / 256 < q ∧ a % 256 = l.val
      · rw [if_pos h1, if_pos (by omega)]
      · rw [if_neg h1, if_neg (by omega)]

end Cert.KernelIdeal

end
-- ==== Proof.Winner.lean ====
/-
  The closing region: a row's sum over its lanes, and the least counter among the lanes that hold the row's largest value.
-/
module

public import proofs.«01_k».proof.Proof.Lanes
public import Idealize.ShloMosaic.Lib.ValueLayoutCasts

@[expose] public section

noncomputable section

namespace Cert.KernelIdeal

open Idealize.ShloMosaic Cert.First Cert.Words
open Facts₀

local instance : Facts := Gen.facts

/-- The lanes of row `r`. -/
theorem lift_eq (r : Fin 32) (l : Fin 256) : reduces_S32x256_S32.lift (ValueIdx.ix1 r) l = Shape.pair (d := ![32, 256]) r l := by
  funext a
  match a with
  | ⟨0, _⟩ => rfl
  | ⟨1, _⟩ => rfl

/-- A value a row, cast to a column. -/
theorem column_apply {α : Type} (x : S32.Idx → α) (r : Fin 32) :
    shapeCast S32x1 x shapeCasts_S32_S32x1 (Shape.pair (d := ![32, 1]) r (0 : Fin 1)) = x (ValueIdx.ix1 r) := by
  rw [ValueIdx.pair_eq_ix2]; exact ValueIdx.shapeCast_a_a1_apply x _ r 0

/-- The sum over a row's lanes. -/
theorem laneSum_apply (v : FVec Ideal S32x256 .f32) (r : Fin 32) :
    laneSum v (Shape.pair (d := ![32, 1]) r (0 : Fin 1)) = ∑ l : Fin 256, v (Shape.pair (d := ![32, 256]) r l) := by
  unfold laneSum
  rw [column_apply]
  refine (Ideal.multiReduction_add_single v _ reduces_S32x256_S32 (.inl rfl) rfl _).trans ?_
  exact Finset.sum_congr rfl fun l _ => congrArg v (lift_eq r l)

theorem toInt_minsi (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.mp h)]

/-- The least of words that are all at least `w`, one of them `w`. -/
theorem fold_minsi {ι : Type} [Fintype ι] (f : ι → BitVec 32) (b w : BitVec 32) (hb : w.toInt ≤ b.toInt) (hf : ∀ i, w.toInt ≤ (f i).toInt)
    (i : ι) (hi : f i = w) : (Finset.univ : Finset ι).fold IntOp.minsi b f = w := by
  have h : ∀ s : Finset ι, (s.fold IntOp.minsi b f).toInt = s.fold min b.toInt (fun i => (f i).toInt) := by
    intro s
    induction s using Finset.cons_induction with
    | empty => rfl
    | cons a s ha ih => rw [Finset.fold_cons, Finset.fold_cons, toInt_minsi, ih]
  refine BitVec.eq_of_toInt_eq ?_
  rw [h]
  refine le_antisymm ?_ ?_
  · exact (Finset.fold_min_le _).mpr (.inr ⟨i, Finset.mem_univ i, by rw [hi]⟩)
  · exact (Finset.le_fold_min _).mpr ⟨hb, fun i _ => hf i⟩

/-- The largest of values that are all at most `m`, one of them `m`. -/
theorem fold_max {ι : Type} [Fintype ι] (f : ι → EReal) (m : EReal) (hf : ∀ i, f i ≤ m) (i : ι) (hi : f i = m) :
    (Finset.univ : Finset ι).fold max ⊥ f = m := by
  refine le_antisymm ?_ ?_
  · exact (Finset.fold_max_le _).mpr ⟨bot_le, fun i _ => hf i⟩
  · exact (Finset.le_fold_max _).mpr (.inr ⟨i, Finset.mem_univ i, hi.ge⟩)

/-- The least word of a row's lanes. -/
theorem least_apply (k : IVec S32x256 32) (r : Fin 32) :
    multiReductionI .minsi [1] S32 k 2147483647#32 reduces_S32x256_S32 rfl (ValueIdx.ix1 r)
      = (Finset.univ : Finset (Fin 256)).fold IntOp.minsi 2147483647#32 (fun l => k (Shape.pair (d := ![32, 256]) r l)) := by
  refine (multiReductionI_eq_fold .minsi k _ reduces_S32x256_S32 rfl _).trans ?_
  refine (reduces_S32x256_S32.fold_filter_drop_single IntOp.minsi 2147483647#32 k (ValueIdx.ix1 r)).trans ?_
  exact congrArg (Finset.fold IntOp.minsi 2147483647#32 · Finset.univ) (funext fun l => congrArg k (lift_eq r l))

/-- Each row's largest value, on all its lanes. -/
def rowMax (v : FVec Ideal S32x256 .f32) : FVec Ideal S32x256 .f32 :=
  broadcastTo S32x256 (shapeCast S32x1 (multiReduction .maximumf [1] S32 v 0xFF800000#32 reduces_S32x256_S32 (.inl rfl) rfl)
    shapeCasts_S32_S32x1) broadcasts_S32x1_S32x256

theorem rowMax_apply (v : FVec Ideal S32x256 .f32) (r : Fin 32) (l : Fin 256) : rowMax v (Shape.pair (d := ![32, 256]) r l)
    = (Finset.univ : Finset (Fin 256)).fold max (⊥ : EReal) (fun l => v (Shape.pair (d := ![32, 256]) r l)) := by
  unfold rowMax
  refine (spread_apply _ r l).trans ((column_apply _ r).trans ?_)
  refine (Ideal.multiReduction_maximumf_single v _ reduces_S32x256_S32 (.inl rfl) rfl _).trans ?_
  exact congrArg₂ (fun b f => Finset.fold max b f Finset.univ) ofBits_bot (funext fun l => congrArg v (lift_eq r l))

/-- The counters of the lanes that hold it, the largest word on the others. -/
def candidates (v w : FVec Ideal S32x256 .f32) (k : IVec S32x256 32) : IVec S32x256 32 :=
  select (cmpf .oeq v w) k (broadcast S32x256 2147483647#32)

theorem select_eq (a b : EReal) {α : Type} (u v : α) :
    Scalar.select (FloatOps.cmpf (F := Ideal) (φ := .f32) .oeq a b) u v = if a = b then u else v := by
  rw [Ideal.cmpf_def]
  unfold Scalar.select Ideal.cmp
  by_cases e : a = b
  · simp [e]
  · simp [e]

theorem candidates_apply (v w : FVec Ideal S32x256 .f32) (k : IVec S32x256 32) (x : S32x256.Idx) :
    candidates v w k x = Scalar.select (FloatOps.cmpf (F := Ideal) (φ := .f32) .oeq (v x) (w x)) (k x) 2147483647#32 := rfl

theorem winner_eq (v : FVec Ideal S32x256 .f32) (k : IVec S32x256 32) (b : IVec S32x1 32) : winner v k b
    = subi (shapeCast S32x1 (multiReductionI .minsi [1] S32 (candidates v (rowMax v) k) 2147483647#32 reduces_S32x256_S32 rfl)
        shapeCasts_S32_S32x1) b := rfl

/-- The least of the words `k l` on whose lanes `v l` is largest. -/
def leastOf (v : Fin 256 → EReal) (k : Fin 256 → BitVec 32) : BitVec 32 :=
  (Finset.univ : Finset (Fin 256)).fold IntOp.minsi 2147483647#32
    (fun l => if v l = (Finset.univ : Finset (Fin 256)).fold max (⊥ : EReal) v then k l else 2147483647#32)

theorem winner_apply (v : FVec Ideal S32x256 .f32) (k : IVec S32x256 32) (b : IVec S32x1 32) (r : Fin 32) :
    winner v k b (Shape.pair (d := ![32, 1]) r (0 : Fin 1))
      = leastOf (fun l => v (Shape.pair (d := ![32, 256]) r l)) (fun l => k (Shape.pair (d := ![32, 256]) r l))
        - b (Shape.pair (d := ![32, 1]) r (0 : Fin 1)) := by
  have hsub : ∀ p q : IVec S32x1 32, ∀ x, subi p q x = p x - q x := fun p q x => rfl
  have hl : ∀ l : Fin 256, candidates v (rowMax v) k (Shape.pair (d := ![32, 256]) r l)
      = if v (Shape.pair (d := ![32, 256]) r l) = (Finset.univ : Finset (Fin 256)).fold max (⊥ : EReal) (fun l => v (Shape.pair (d := ![32, 256]) r l))
        then k (Shape.pair (d := ![32, 256]) r l) else 2147483647#32 := fun l => by
    rw [candidates_apply, rowMax_apply v r l]
    exact select_eq _ _ _ _
  rw [winner_eq, hsub, column_apply]
  have h := (least_apply (candidates v (rowMax v) k) r).trans
    (congrArg (fun f => Finset.fold IntOp.minsi 2147483647#32 f Finset.univ) (funext hl))
  rw [h]
  unfold leastOf
  exact Eq.refl _

theorem cntOf_toInt (r : Fin 32) (c : ℕ) (hc : c < 2000000) : (cntOf r c).toInt = 1000000 * r.val + c := by
  have := r.isLt
  rw [BitVec.toInt_eq_toNat_of_lt (by rw [cntOf_toNat r c hc]; omega), cntOf_toNat r c hc]
  push_cast; rfl

/-- If each lane leads in the entries of a row that it has met, the least counter is that of the first column at which the row
    is largest. -/
theorem leastOf_first (g : ℕ → EReal) (hg : ∀ c, ¬ c < 1000000 → g c = ⊥) (hb : ∃ c < 1000000, ⊥ < g c)
    (v : Fin 256 → EReal) (k : Fin 256 → BitVec 32) (r : Fin 32) (q : ℕ) (hq : q = 3907)
    (hlead : ∀ l : Fin 256, Lead (fun i => g (256 * i + l.val)) (fun i => cntOf r (256 * i + l.val)) q
      (v l) (k l)) :
    ∃ c, FirstMax 1000000 g c ∧ leastOf v k = cntOf r c := by
  obtain ⟨c, hc⟩ := exists_firstMax (V := 1000000) (by omega) g
  refine ⟨c, hc, ?_⟩
  have hcV := hc.1
  have hbot : ⊥ < g c := by obtain ⟨d, hd, h⟩ := hb; exact h.trans_le (hc.2.1 d hd)
  have hle : ∀ d, g d ≤ g c := fun d => by
    by_cases hd : d < 1000000
    · exact hc.2.1 d hd
    · rw [hg d hd]; exact bot_le
  -- a lane that holds the largest value met it at a column no earlier than `c`
  have hlane : ∀ l : Fin 256, v l = g c → ∃ i < q, g (256 * i + l.val) = g c ∧
      k l = cntOf r (256 * i + l.val) ∧ c ≤ 256 * i + l.val ∧ ∀ j < i, g (256 * j + l.val) < g c := by
    intro l hl
    rcases (hlead l).2 with h | ⟨i, hi, h1, h2, h3⟩
    · exact absurd (hl.symm.trans h) hbot.ne'
    · have h4 : g (256 * i + l.val) = g c := h1.symm.trans hl
      refine ⟨i, hi, h4, h2, ?_, fun j hj => (h3 j hj).trans_eq h4⟩
      by_contra hlt
      exact absurd h4 (hc.2.2 _ (not_le.mp hlt)).ne
  have hvle : ∀ l : Fin 256, v l ≤ g c := fun l => by
    rcases (hlead l).2 with h | ⟨i, hi, h1, -⟩
    · rw [h]; exact bot_le
    · rw [h1]; exact hle _
  -- the lane of column `c` holds it
  have hmod : 256 * (c / 256) + c % 256 = c := Nat.div_add_mod c 256
  have hv0 : v ⟨c % 256, Nat.mod_lt c (by omega)⟩ = g c := by
    refine le_antisymm (hvle _) ?_
    have := (hlead ⟨c % 256, Nat.mod_lt c (by omega)⟩).1 (c / 256) (by omega)
    have this : g (256 * (c / 256) + c % 256) ≤ _ := this
    rwa [hmod] at this
  have hk0 : k ⟨c % 256, Nat.mod_lt c (by omega)⟩ = cntOf r c := by
    obtain ⟨i, hi, h1, h2, h3, h4⟩ := hlane _ hv0
    rw [h2]
    refine congrArg (cntOf r) ?_
    have h3 : c ≤ 256 * i + c % 256 := h3
    rcases Nat.lt_or_ge (c / 256) i with h | h
    · have := h4 _ h
      have this : g (256 * (c / 256) + c % 256) < g c := this
      rw [hmod] at this
      exact absurd this (lt_irrefl _)
    · show 256 * i + c % 256 = c
      omega
  have hM : (Finset.univ : Finset (Fin 256)).fold max (⊥ : EReal) v = g c := fold_max _ _ hvle _ hv0
  have hr := r.isLt
  have htop : (2147483647#32 : BitVec 32).toInt = 2147483647 := by decide
  unfold leastOf
  rw [hM]
  refine fold_minsi _ _ _ ?_ (fun l => ?_) ⟨c % 256, Nat.mod_lt c (by omega)⟩ ?_
  · rw [cntOf_toInt r c (by omega), htop]; omega
  · split
    · rename_i h
      obtain ⟨i, hi, h1, h2, h3, -⟩ := hlane l h
      have hl := l.isLt
      rw [h2, cntOf_toInt r c (by omega), cntOf_toInt r _ (by omega)]
      push_cast
      omega
    · rw [cntOf_toInt r c (by omega), htop]; omega
  · rw [if_pos hv0, hk0]

/-- So the winner of the row is that column. -/
theorem winner_first (g : ℕ → EReal) (hg : ∀ c, ¬ c < 1000000 → g c = ⊥) (hb : ∃ c < 1000000, ⊥ < g c)
    (v : FVec Ideal S32x256 .f32) (k : IVec S32x256 32) (r : Fin 32) (q : ℕ) (hq : q = 3907)
    (hlead : ∀ l : Fin 256, Lead (fun i => g (256 * i + l.val)) (fun i => cntOf r (256 * i + l.val)) q
      (v (Shape.pair (d := ![32, 256]) r l)) (k (Shape.pair (d := ![32, 256]) r l))) :
    ∃ c, FirstMax 1000000 g c ∧ winner v k (firstCol rowLanes) (Shape.pair (d := ![32, 1]) r (0 : Fin 1)) = BitVec.ofNat 32 c := by
  obtain ⟨c, hc, e⟩ := leastOf_first g hg hb (fun l => v (Shape.pair (d := ![32, 256]) r l)) (fun l => k (Shape.pair (d := ![32, 256]) r l))
    r q hq hlead
  refine ⟨c, hc, ?_⟩
  rw [winner_apply, e, base_apply]
  refine BitVec.eq_of_toNat_eq ?_
  have hr := r.isLt
  have hcV := hc.1
  rw [BitVec.toNat_sub, cntOf_toNat r c (by omega), cntOf_toNat r 0 (by omega), BitVec.toNat_ofNat]
  omega

end Cert.KernelIdeal

end
-- ==== Proof.Logs.lean ====
/-
  The exponentials and logarithms of a row whose entries are below +∞ and not all -∞, as numbers of the reals.
-/
module

public import Idealize.ShloMosaic.PureOps.Ideal.Laws

@[expose] public section

noncomputable section

namespace Cert.Logs

open Idealize.ShloMosaic

theorem exp_coe (x : ℝ) : Ideal.exp (x : EReal) = ((Real.exp x : ℝ) : EReal) := rfl

theorem exp_bot : Ideal.exp ⊥ = 0 := rfl

theorem log_coe (x : ℝ) (h : 0 < x) : Ideal.log (x : EReal) = ((Real.log x : ℝ) : EReal) := by
  show (if x ≤ 0 then (⊥ : EReal) else ((Real.log x : ℝ) : EReal)) = _
  rw [if_neg (not_le.mpr h)]

theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The exponential of an entry below +∞: zero of -∞. -/
def weight (y : EReal) : ℝ := (Ideal.exp y).toReal

theorem weight_coe (x : ℝ) : weight (x : EReal) = Real.exp x := rfl

theorem weight_bot : weight ⊥ = 0 := rfl

theorem exp_eq (y : EReal) (h : y ≠ ⊤) : Ideal.exp y = ((weight y : ℝ) : EReal) := by
  induction y with
  | bot => rfl
  | coe x => rfl
  | top => exact absurd rfl h

theorem weight_nonneg (y : EReal) (h : y ≠ ⊤) : 0 ≤ weight y := by
  induction y with
  | bot => exact le_rfl
  | coe x => exact (Real.exp_pos x).le
  | top => exact absurd rfl h

theorem weight_lt (y z : EReal) (hz : z ≠ ⊤) (h : y < z) : weight y < weight z := by
  induction z with
  | bot => exact absurd h not_lt_bot
  | top => exact absurd rfl hz
  | coe b =>
    induction y with
    | bot => rw [weight_bot, weight_coe]; exact Real.exp_pos b
    | coe a => exact Real.exp_lt_exp.mpr (EReal.coe_lt_coe_iff.mp h)
    | top => exact absurd h not_top_lt

/-- A number taken off an entry. -/
theorem sub_ne_top (y : EReal) (h : y ≠ ⊤) (M : ℝ) : y - (M : EReal) ≠ ⊤ := by
  induction y with
  | bot => rw [EReal.bot_sub]; exact bot_ne_top
  | coe x => rw [← EReal.coe_sub]; exact EReal.coe_ne_top _
  | top => exact absurd rfl h

theorem weight_sub (y : EReal) (h : y ≠ ⊤) (M : ℝ) : weight (y - (M : EReal)) = weight y * Real.exp (-M) := by
  induction y with
  | bot => rw [EReal.bot_sub, weight_bot, zero_mul]
  | coe x => rw [← EReal.coe_sub, weight_coe, weight_coe, sub_eq_add_neg, Real.exp_add]
  | top => exact absurd rfl h

theorem sub_sub_coe (y : EReal) (h : y ≠ ⊤) (M T : ℝ) : (y - (M : EReal)) - ((T - M : ℝ) : EReal) = y - (T : EReal) := by
  induction y with
  | bot => rw [EReal.bot_sub, EReal.bot_sub, EReal.bot_sub]
  | coe x => rw [← EReal.coe_sub, ← EReal.coe_sub, ← EReal.coe_sub]; exact congrArg _ (by ring)
  | top => exact absurd rfl h

theorem sub_lt_sub_coe (y z : EReal) (hz : z ≠ ⊤) (T : ℝ) (h : y < z) : y - (T : EReal) < z - (T : EReal) := by
  induction z with
  | bot => exact absurd h not_lt_bot
  | top => exact absurd rfl hz
  | coe b =>
    induction y with
    | bot => rw [EReal.bot_sub, ← EReal.coe_sub]; exact EReal.bot_lt_coe _
    | coe a => rw [← EReal.coe_sub, ← EReal.coe_sub]; exact EReal.coe_lt_coe_iff.mpr (sub_lt_sub_right (EReal.coe_lt_coe_iff.mp h) T)
    | top => exact absurd h not_top_lt

/-- The sum of the exponentials of the first `V` entries. -/
def total (V : ℕ) (f : ℕ → EReal) : ℝ := ∑ c ∈ Finset.range V, weight (f c)

/-- That the first `V` entries are below +∞ and not all -∞. -/
structure Proper (V : ℕ) (f : ℕ → EReal) : Prop where
  ne_top : ∀ c < V, f c ≠ ⊤
  bot_lt : ∃ c < V, ⊥ < f c

section
variable {V : ℕ} {f : ℕ → EReal} (hf : Proper V f)
include hf

theorem total_pos : 0 < total V f := by
  obtain ⟨c, hc, hb⟩ := hf.bot_lt
  exact Finset.sum_pos' (fun i hi => weight_nonneg _ (hf.ne_top i (Finset.mem_range.mp hi)))
    ⟨c, Finset.mem_range.mpr hc, weight_bot ▸ weight_lt ⊥ (f c) (hf.ne_top c hc) hb⟩

theorem sum_exp : ∑ c ∈ Finset.range V, Ideal.exp (f c) = ((total V f : ℝ) : EReal) := by
  unfold total
  rw [← coe_sum]
  exact Finset.sum_congr rfl fun c hc => exp_eq _ (hf.ne_top c (Finset.mem_range.mp hc))

/-- A number taken off every entry leaves the row proper, -/
theorem Proper.shift {g : ℕ → EReal} {M : ℝ} (hg : ∀ c < V, g c = f c - (M : EReal)) : Proper V g := by
  refine ⟨fun c hc => hg c hc ▸ sub_ne_top _ (hf.ne_top c hc) M, ?_⟩
  obtain ⟨c, hc, hb⟩ := hf.bot_lt
  refine ⟨c, hc, ?_⟩
  rw [hg c hc, ← EReal.bot_sub (M : EReal)]
  exact sub_lt_sub_coe ⊥ (f c) (hf.ne_top c hc) M hb

/-- and is taken off the logarithm of the sum. -/
theorem log_total_shift {g : ℕ → EReal} {M : ℝ} (hg : ∀ c < V, g c = f c - (M : EReal)) :
    Real.log (total V g) = Real.log (total V f) - M := by
  have h : total V g = total V f * Real.exp (-M) := by
    unfold total
    rw [Finset.sum_mul]
    refine Finset.sum_congr rfl fun c hc => ?_
    have hc := Finset.mem_range.mp hc
    rw [hg c hc, weight_sub _ (hf.ne_top c hc)]
  rw [h, Real.log_mul (total_pos hf).ne' (Real.exp_pos _).ne', Real.log_exp, ← sub_eq_add_neg]

end

/-- The largest of finitely many entries is above -∞ only if one is, and below +∞ only if all are. -/
theorem proper_of_fold {n : ℕ} (f : ℕ → EReal) (h1 : ⊥ < (Finset.univ : Finset (Fin n)).fold max (⊥ : EReal) (fun c => f c.val))
    (h2 : (Finset.univ : Finset (Fin n)).fold max (⊥ : EReal) (fun c => f c.val) < ⊤) : Proper n f := by
  refine ⟨fun c hc => (((Finset.fold_max_lt _).mp h2).2 ⟨c, hc⟩ (Finset.mem_univ _)).ne, ?_⟩
  rcases (Finset.lt_fold_max _).mp h1 with h | ⟨c, -, h⟩
  · exact absurd h (lt_irrefl _)
  · exact ⟨c.val, c.isLt, h⟩

/-- The largest entry of a proper row is a number. -/
theorem fold_coe {n : ℕ} (f : ℕ → EReal) (hf : Proper n f) :
    ∃ M : ℝ, (Finset.univ : Finset (Fin n)).fold max (⊥ : EReal) (fun c => f c.val) = (M : EReal) := by
  have h2 : (Finset.univ : Finset (Fin n)).fold max (⊥ : EReal) (fun c => f c.val) < ⊤ :=
    (Finset.fold_max_lt _).mpr ⟨bot_lt_top, fun c _ => (hf.ne_top c.val c.isLt).lt_top⟩
  have h1 : ⊥ < (Finset.univ : Finset (Fin n)).fold max (⊥ : EReal) (fun c => f c.val) := by
    obtain ⟨c, hc, hb⟩ := hf.bot_lt
    exact (Finset.lt_fold_max _).mpr (.inr ⟨⟨c, hc⟩, Finset.mem_univ _, hb⟩)
  exact ⟨_, (EReal.coe_toReal h2.ne h1.ne').symm⟩

end Cert.Logs

end
-- ==== Proof.KernelResults.lean ====
/-
  The kernel's three results, row by row: the first column at which the perturbed row is largest, the logarithm of the action's
  probability, the first column at which the row is largest.
-/
module

public import proofs.«01_k».proof.Proof.Winner
public import proofs.«01_k».proof.Proof.Logs

@[expose] public section

noncomputable section

namespace Cert.KernelIdeal

open Idealize.ShloMosaic Cert.First Cert.Words Cert.Logs
open Facts₀

local instance : Facts := Gen.facts

variable (L : FVec Ideal S32x1000000 .f32) (A : IVec S32x1 32) (r : Fin 32)

/-- A logit above -∞ less noise that isn't +∞ is above -∞. -/
theorem perturbed_bot_lt (hf : Proper 1000000 (rowOf L r)) : ∃ c < 1000000, ⊥ < perturbed L r c := by
  obtain ⟨c, hc, hb⟩ := hf.bot_lt
  refine ⟨c, hc, ?_⟩
  unfold perturbed
  rw [sub_eq_add_neg, EReal.bot_lt_add_iff]
  exact ⟨hb, bot_lt_iff_ne_bot.mpr fun h => gumbel_ne_top _ (EReal.neg_eq_bot_iff.mp h)⟩

theorem perturbed_masked (c : ℕ) (h : ¬ c < 1000000) : perturbed L r c = ⊥ := by
  unfold perturbed
  rw [rowOf_of_not_lt L r c h, EReal.bot_sub]

theorem sampleOut_first (hf : Proper 1000000 (rowOf L r)) : ∃ c, FirstMax 1000000 (perturbed L r) c
    ∧ sampleOut L A (Shape.pair (d := ![32, 1]) r (0 : Fin 1)) = BitVec.ofNat 32 c := by
  obtain ⟨q, hq⟩ : ∃ q, q = 3907 := ⟨_, rfl⟩
  unfold sampleOut
  rw [accAfter_all L A q hq]
  exact winner_first (perturbed L r) (perturbed_masked L r) (perturbed_bot_lt L r hf) _ _ r q hq (chunks_g L A q r)

theorem modeOut_first (hf : Proper 1000000 (rowOf L r)) : ∃ c, FirstMax 1000000 (rowOf L r) c
    ∧ modeOut L A (Shape.pair (d := ![32, 1]) r (0 : Fin 1)) = BitVec.ofNat 32 c := by
  obtain ⟨q, hq⟩ : ∃ q, q = 3907 := ⟨_, rfl⟩
  unfold modeOut
  rw [accAfter_all L A q hq]
  exact winner_first (rowOf L r) (rowOf_of_not_lt L r) hf.bot_lt _ _ r q hq (chunks_v L A q r)

/-- The lanes' sums make the whole row's. -/
theorem sum_s (hf : Proper 1000000 (rowOf L r)) (q : ℕ) (hq : q = 3907) :
    laneSum (chunks L A q).s (Shape.pair (d := ![32, 1]) r (0 : Fin 1)) = ((total 1000000 (rowOf L r) : ℝ) : EReal) := by
  rw [laneSum_apply]
  refine (Finset.sum_congr rfl fun l _ => chunks_s L A q r l).trans ?_
  refine (sum_lanes 256 q fun c => Ideal.exp (rowOf L r c)).trans ?_
  rw [← sum_exp hf]
  refine (Finset.sum_subset (fun c hc => ?_) fun c _ hc => ?_).symm
  · rw [Finset.mem_range] at hc ⊢; omega
  · rw [Finset.mem_range] at hc
    rw [rowOf_of_not_lt L r c hc, exp_bot]

/-- One lane holds the action's entry, the others nothing. -/
theorem sum_av (a : ℕ) (ha : a < 1000000) (hA : A (Shape.pair (d := ![32, 1]) r (0 : Fin 1)) = BitVec.ofNat 32 a) (q : ℕ) (hq : q = 3907) :
    laneSum (chunks L A q).av (Shape.pair (d := ![32, 1]) r (0 : Fin 1)) = rowOf L r a := by
  rw [laneSum_apply]
  refine (Finset.sum_congr rfl fun l _ => chunks_av L A r a ha hA q hq.le l).trans ?_
  refine (Finset.sum_eq_single_of_mem (⟨a % 256, Nat.mod_lt a (by omega)⟩ : Fin 256) (Finset.mem_univ _) fun l _ hl => ?_).trans ?_
  · exact if_neg fun h => hl (Fin.ext h.2.symm)
  · exact if_pos ⟨by omega, rfl⟩

theorem logp_apply (p s : FVec Ideal S32x1 .f32) (i : S32x1.Idx) : subf p (log s) i = p i - Ideal.log (s i) := rfl

theorem logpOut_value (hf : Proper 1000000 (rowOf L r)) (a : ℕ) (ha : a < 1000000)
    (hA : A (Shape.pair (d := ![32, 1]) r (0 : Fin 1)) = BitVec.ofNat 32 a) :
    logpOut L A (Shape.pair (d := ![32, 1]) r (0 : Fin 1)) = rowOf L r a - ((Real.log (total 1000000 (rowOf L r)) : ℝ) : EReal) := by
  obtain ⟨q, hq⟩ : ∃ q, q = 3907 := ⟨_, rfl⟩
  unfold logpOut
  rw [accAfter_all L A q hq, logp_apply, sum_s L A r hf q hq, sum_av L A r a ha hA q hq, log_coe _ (total_pos hf)]

end Cert.KernelIdeal

end
-- ==== Proof.RefArg.lean ====
/-
  The reference's arg-max of a row is the first column at which the row is largest.  The reduction folds a rule that of two
  (value, column) pairs keeps the larger value, and of equal values the smaller column.
-/
module

public import proofs.«01_k».proof.Proof.Ref
public import proofs.«01_k».proof.Proof.First
public import Idealize.ShloMosaic.PureOps.Ideal.Laws
public import Idealize.ShloMosaic.Lib.Pipeline.Value

@[expose] public section

noncomputable section

namespace Cert.ReferenceIdeal

open Idealize.ShloMosaic Cert.First
open Facts₀

local instance : Facts := Gen.facts

/-- The entries of a row, with -∞ past its last column. -/
def row (X : FVec Ideal S32x1000000 .f32) (r : Fin 32) (c : ℕ) : EReal :=
  if h : c < 1000000 then X (Shape.pair (d := ![32, 1000000]) r ⟨c, h⟩) else ⊥

theorem row_of_lt (X : FVec Ideal S32x1000000 .f32) (r : Fin 32) (c : ℕ) (h : c < 1000000) :
    row X r c = X (Shape.pair (d := ![32, 1000000]) r ⟨c, h⟩) := dif_pos h

/-- The pair `p` is at least as good as `q`: larger, or as large and no later. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, h1⟩ <;> rcases h' with h' | ⟨h', h1'⟩
  · exact .inl (h'.trans h)
  · exact .inl (h' ▸ h)
  · exact .inl (h ▸ h')
  · exact .inr ⟨h'.trans h, h1.trans h1'⟩

/-- Of two pairs the rule keeps one that is at least as good as both. -/
theorem reducer_eq (a b : EReal × BitVec 32) :
    (reducer_argmax_f32_i32 (F := Ideal) a b = a ∧ Beats a b) ∨ (reducer_argmax_f32_i32 (F := Ideal) a b = b ∧ Beats b a) := by
  have e1 : FloatOps.cmpf (F := Ideal) (φ := .f32) .ogt a.1 b.1 = BitVec.ofBool (decide (b.1 < a.1)) := rfl
  have e2 : FloatOps.cmpf (F := Ideal) (φ := .f32) .une a.1 a.1 = 0#1 := by simp [Ideal.cmpf_def, Ideal.cmp]
  have e3 : FloatOps.cmpf (F := Ideal) (φ := .f32) .oeq a.1 b.1 = BitVec.ofBool (decide (a.1 = b.1)) := rfl
  have e4 : IntOp.cmpi .slt a.2 b.2 = BitVec.ofBool (a.2.slt b.2) := rfl
  have hr : reducer_argmax_f32_i32 (F := Ideal) a b
      = (Scalar.select (IntOp.ori (BitVec.ofBool (decide (b.1 < a.1))) 0#1) a.1 b.1,
          Scalar.select (IntOp.ori (IntOp.ori (BitVec.ofBool (decide (b.1 < a.1))) 0#1)
            (IntOp.andi (BitVec.ofBool (decide (a.1 = b.1))) (BitVec.ofBool (a.2.slt b.2)))) a.2 b.2) := by
    rw [← e1, ← e2, ← e3, ← e4]; rfl
  have hs : a.2.slt b.2 = decide (a.2.toInt < b.2.toInt) := BitVec.slt_eq_decide
  rw [hr, hs]
  rcases lt_trichotomy b.1 a.1 with h | h | h
  · left
    refine ⟨?_, .inl h⟩
    have : IntOp.ori (IntOp.ori (BitVec.ofBool (decide (b.1 < a.1))) 0#1) (IntOp.andi (BitVec.ofBool (decide (a.1 = b.1)))
        (BitVec.ofBool (decide (a.2.toInt < b.2.toInt)))) = 1#1 := by
      simp only [h, h.ne', decide_true, decide_false]; simp [IntOp.ori, IntOp.andi]
    rw [this]
    simp [h, Scalar.select, IntOp.ori, Prod.ext_iff]
  · by_cases h2 : a.2.toInt < b.2.toInt
    · left
      refine ⟨?_, .inr ⟨h, h2.le⟩⟩
      simp [h, h2, Scalar.select, IntOp.ori, IntOp.andi, Prod.ext_iff]
    · right
      refine ⟨?_, .inr ⟨h.symm, not_lt.mp h2⟩⟩
      simp [h, h2, Scalar.select, IntOp.ori, IntOp.andi, Prod.ext_iff]
  · right
    refine ⟨?_, .inl h⟩
    simp [not_lt.mpr h.le, h.ne, Scalar.select, IntOp.ori, IntOp.andi, Prod.ext_iff]

/-- The fold of the rule over a list ends with a pair of the list, or the one begun with, that is at least as good as all. -/
theorem fold_best (l : List (EReal × BitVec 32)) (i : EReal × BitVec 32) :
    (l.foldl (reducer_argmax_f32_i32 (F := Ideal)) i = i ∨ l.foldl (reducer_argmax_f32_i32 (F := Ideal)) i ∈ l)
      ∧ Beats (l.foldl (reducer_argmax_f32_i32 (F := Ideal)) i) i
      ∧ ∀ q ∈ l, Beats (l.foldl (reducer_argmax_f32_i32 (F := Ideal)) i) q := by
  induction l generalizing i with
  | nil => exact ⟨.inl rfl, .refl i, by simp⟩
  | cons a l ih =>
    obtain ⟨h1, h2, h3⟩ := ih (reducer_argmax_f32_i32 (F := Ideal) i a)
    simp only [List.foldl_cons, List.mem_cons, forall_eq_or_imp]
    rcases reducer_eq i a with ⟨e, hb⟩ | ⟨e, hb⟩ <;> rw [e] at h1 h2 h3 ⊢
    · exact ⟨h1.imp_right .inr, h2, h2.trans hb, h3⟩
    · exact ⟨.inr h1, h2.trans hb, h2, h3⟩

/-- What a fiber holds. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩
    exact ⟨s.rowMajor i, by rw [Equiv.symm_apply_apply]; exact hi, by rw [Equiv.symm_apply_apply]⟩

/-- The index of the row that a place of the array drops to. -/
theorem drop_eq_iff (i : S32x1000000.Idx) (j : S32.Idx) : reducesTo_S32x1000000_S32_d1.drop i = j ↔ i 0 = j 0 := by
  have h : ∀ i : S32x1000000.Idx, (reducesTo_S32x1000000_S32_d1.drop i 0).val = (i 0).val :=
    fun i => reducesTo_S32x1000000_S32_d1.drop_apply_val_of_eq i 0 0
  constructor
  · rintro rfl; exact Fin.ext (h i).symm
  · intro e; funext a; fin_cases a; exact Fin.ext ((h i).trans (congrArg Fin.val e))

/-- The pairs of a row. -/
theorem mem_row (X : FVec Ideal S32x1000000 .f32) (j : S32.Idx) (r : Fin 32) (hr : j 0 = r) (p : EReal × BitVec 32) :
    p ∈ Host.argReduceFiber (α := EReal) X (iotaInDim S32x1000000 32 1) reducesTo_S32x1000000_S32_d1 j
      ↔ ∃ c < 1000000, p = (row X r c, BitVec.ofNat 32 c) := by
  rw [mem_fiber]
  constructor
  · rintro ⟨i, hi, rfl⟩
    have h0 : i 0 = r := ((drop_eq_iff i j).mp hi).trans hr
    refine ⟨(i 1).val, (i 1).isLt, Prod.ext ?_ rfl⟩
    refine Eq.trans ?_ (row_of_lt X r (i 1).val (i 1).isLt).symm
    refine congrArg X ?_
    rw [← h0]
    exact (Shape.pair_eta i).symm
  · rintro ⟨c, hc, rfl⟩
    exact ⟨Shape.pair (d := ![32, 1000000]) r ⟨c, hc⟩, (drop_eq_iff _ _).mpr hr.symm, Prod.ext (row_of_lt X r c hc) rfl⟩

/-- An arg-max is its rule folded over the fiber. -/
theorem argReduce_fold {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t) (hu : 0 < u.numel) (j : t.Idx) :
    Host.argReduce (F := Ideal) (φ := .f32) f x y ix iy h hu j
      = (Host.argReduceFiber (α := EReal) x y h j).foldl f (ix (Shape.Idx.first hu), iy (Shape.Idx.first hu)) := by
  rw [Ideal.argReduce_eq_reduce2]; exact Host.reduce2_eq_foldl_fiber _ _ _ _ _ _ _ _

theorem ofBits_bot : Ideal.ofBits .f32 0xFF800000#32 = ⊥ := by
  simp [Ideal.ofBits, Ideal.ieee]

theorem constant_ofBits {F : FTy → Type} [FloatOps F] (s : Shape) (w : BitVec 32) (i : s.Idx) :
    constant (F := F) s .f32 w i = FloatOps.ofBits .f32 w := rfl

theorem constant_bot (s : Shape) (i : s.Idx) : constant (F := Ideal) s .f32 0xFF800000#32 i = (⊥ : EReal) :=
  (constant_ofBits s _ i).trans ofBits_bot

theorem argPair_eq (X : FVec Ideal S32x1000000 .f32) :
    argPair X = Host.argReduce (F := Ideal) (φ := .f32) (reducer_argmax_f32_i32 (F := Ideal)) X (iotaInDim S32x1000000 32 1)
      (constant S_ .f32 0xFF800000#32) (constantI S_ 32 0#32) reducesTo_S32x1000000_S32_d1 h_S_ := rfl

theorem argmaxV_apply (X : FVec Ideal S32x1000000 .f32) (j : S32.Idx) : argmaxV X j = column (argPair X j) := rfl

theorem toInt_column (c : ℕ) (hc : c < 1000000) : (BitVec.ofNat 32 c).toInt = (c : ℤ) := by
  rw [BitVec.toInt_ofNat', Int.bmod_def]; split <;> omega

/-- The arg-max of a row that isn't -∞ throughout. -/
theorem argmaxV_first (X : FVec Ideal S32x1000000 .f32) (j : S32.Idx) (r : Fin 32) (hr : j 0 = r)
    (hX : ∃ c < 1000000, ⊥ < row X r c) :
    ∃ c, FirstMax 1000000 (row X r) c ∧ argmaxV X j = BitVec.ofNat 32 c := by
  have hmem := mem_row X j r hr
  rw [argmaxV_apply, argPair_eq, argReduce_fold]
  have hbot := constant_bot S_ (Shape.Idx.first h_S_)
  generalize constant (F := Ideal) S_ .f32 0xFF800000#32 (Shape.Idx.first h_S_) = i1 at hbot ⊢
  generalize constantI S_ 32 0#32 (Shape.Idx.first h_S_) = i2
  generalize Host.argReduceFiber (α := EReal) X (iotaInDim S32x1000000 32 1) reducesTo_S32x1000000_S32_d1 j = l at hmem ⊢
  obtain ⟨h1, h2, h3⟩ := fold_best l (i1, i2)
  generalize l.foldl (reducer_argmax_f32_i32 (F := Ideal)) (i1, i2) = p at h1 h2 h3 ⊢
  have hge : ∀ c < 1000000, Beats p (row X r c, BitVec.ofNat 32 c) := fun c hc => h3 _ ((hmem _).mpr ⟨c, hc, rfl⟩)
  have hp : ⊥ < p.1 := by
    obtain ⟨c, hc, hb⟩ := hX
    rcases hge c hc with h | h
    · exact hb.trans h
    · exact h.1 ▸ hb
  have hp' : p ∈ l := h1.resolve_left (by rintro rfl; exact (hbot ▸ hp).ne rfl)
  obtain ⟨c, hc, rfl⟩ := (hmem p).mp hp'
  refine ⟨c, ⟨hc, fun k hk => ?_, fun k hk => ?_⟩, rfl⟩
  · rcases hge k hk with h | h
    · exact h.le
    · exact h.1.le
  · rcases hge k (hk.trans hc) with h | ⟨_, h⟩
    · exact h
    · have h : (BitVec.ofNat 32 c).toInt ≤ (BitVec.ofNat 32 k).toInt := h
      rw [toInt_column c hc, toInt_column k (hk.trans hc)] at h
      omega

end Cert.ReferenceIdeal

end
-- ==== Proof.RefLog.lean ====
/-
  The reference's log-softmax, entry by entry, of rows below +∞ and not all -∞: the entry less the logarithm of its row's sum of exponentials.
-/
module

public import proofs.«01_k».proof.Proof.RefArg
public import proofs.«01_k».proof.Proof.Logs
public import Idealize.ShloMosaic.Lib.ValueLayoutCasts

@[expose] public section

noncomputable section

namespace Cert.ReferenceIdeal

open Idealize.ShloMosaic Cert.First Cert.Logs
open Facts₀

local instance : Facts := Gen.facts

theorem rowReduces : S32x1000000.Reduces [1] S32 := by decide

theorem row_lift (r : Fin 32) (c : Fin 1000000) : rowReduces.lift (ValueIdx.ix1 r) c = Shape.pair (d := ![32, 1000000]) r c := by
  funext a
  match a with
  | ⟨0, _⟩ => rfl
  | ⟨1, _⟩ => rfl

theorem asColumn_apply {α : Type} (x : S32.Idx → α) (r : Fin 32) :
    asColumn x (Shape.pair (d := ![32, 1]) r (0 : Fin 1)) = x (ValueIdx.ix1 r) :=
  broadcastInDim_apply _ _ _ _ _ fun a => by
    match a with
    | ⟨0, _⟩ => rfl

/-- A column of values, each repeated along its row. -/
theorem along_apply {α : Type} (x : S32x1.Idx → α) (r : Fin 32) (c : Fin 1000000) :
    broadcastInDim S32x1000000 ![0, 1] bcast_S32x1_S32x1000000_0_1 x (Shape.pair (d := ![32, 1000000]) r c)
      = x (Shape.pair (d := ![32, 1]) r (0 : Fin 1)) :=
  broadcastInDim_apply _ _ _ _ _ fun a => by
    match a with
    | ⟨0, _⟩ => rfl
    | ⟨1, _⟩ => rfl

theorem zero_first : constant (F := Ideal) S_ .f32 0x00000000#32 (Shape.Idx.first h_S_) = (0 : EReal) :=
  (constant_ofBits S_ _ _).trans Ideal.ofBits_zero_f32

theorem reduceAdd_eq {s t u : Shape} {axes : List (Fin s.rank)} (x : FVec Ideal s .f32) (init : FVec Ideal u .f32)
    (h : s.ReducesTo axes t) (hu : 0 < u.numel) (j : t.Idx) :
    Host.reduceAdd x init h hu j = Ideal.hostReduceAdd h x (init (Shape.Idx.first hu)) j := rfl

/-- The sum over a row. -/
theorem rowSum_apply (x : FVec Ideal S32x1000000 .f32) (r : Fin 32) :
    Host.reduceAdd x (constant S_ .f32 0x00000000#32) reducesTo_S32x1000000_S32_d1 h_S_ (ValueIdx.ix1 r)
      = ∑ c ∈ Finset.range 1000000, row x r c := by
  rw [reduceAdd_eq, zero_first]
  refine (Ideal.hostReduceAdd_single reducesTo_S32x1000000_S32_d1 rowReduces x 0 _).trans ?_
  rw [zero_add, Finset.sum_range]
  refine Finset.sum_congr rfl fun c _ => ?_
  refine (congrArg x (row_lift r c)).trans ?_
  exact (row_of_lt x r c.val c.isLt).symm

/-- The largest of a row. -/
theorem rowMax_apply (x : FVec Ideal S32x1000000 .f32) (r : Fin 32) :
    Host.reduce (FloatOps.maximumf (F := Ideal) (φ := .f32)) x (constant S_ .f32 0xFF800000#32) reducesTo_S32x1000000_S32_d1 h_S_ (ValueIdx.ix1 r)
      = (Finset.univ : Finset (Fin 1000000)).fold max (⊥ : EReal) (fun c => x (Shape.pair (d := ![32, 1000000]) r c)) := by
  refine (Host.reduce_eq_fold_single _ x _ reducesTo_S32x1000000_S32_d1 rowReduces h_S_ _).trans ?_
  exact congrArg₂ (fun b f => Finset.fold max b f Finset.univ) (constant_bot S_ _) (funext fun c => congrArg x (row_lift r c))

/-- The largest again, -∞ taken into it. -/
theorem atLeast_apply (b : FVec Ideal S_ .f32) (v : FVec Ideal S32 .f32) (j : S32.Idx) (hb : ∀ i, b i = (⊥ : EReal)) :
    maximumf (broadcastInDim S32 ![] bcast_S_S32 b) v j = v j := by
  have h : maximumf (broadcastInDim S32 ![] bcast_S_S32 b) v j = max (broadcastInDim S32 ![] bcast_S_S32 b j : EReal) (v j) := rfl
  rw [h, broadcastInDim_apply _ _ b j (Shape.Idx.first h_S_) (fun a => a.elim0), hb]
  exact max_eq_right bot_le

theorem minus_apply {s : Shape} (x y : FVec Ideal s .f32) (i : s.Idx) : subf x y i = (x i - y i : EReal) := rfl
theorem hexp_apply {s : Shape} (x : FVec Ideal s .f32) (i : s.Idx) : Host.exp x i = Ideal.exp (x i) := rfl
theorem hlog_apply {s : Shape} (x : FVec Ideal s .f32) (i : s.Idx) : Host.log x i = Ideal.log (x i) := rfl

section
variable (X : FVec Ideal S32x1000000 .f32) (r : Fin 32) (hf : Proper 1000000 (row X r))
include hf

/-- A row less its largest entry. -/
theorem shifted_row : ∃ M : ℝ, ∀ c < 1000000, row (shifted X) r c = row X r c - (M : EReal) := by
  obtain ⟨M, hM⟩ := fold_coe (row X r) hf
  refine ⟨M, fun c hc => ?_⟩
  rw [row_of_lt _ r c hc]
  unfold shifted
  rw [minus_apply]
  refine congrArg₂ (fun p q : EReal => p - q) (row_of_lt X r c hc).symm ?_
  refine (along_apply _ r ⟨c, hc⟩).trans ((asColumn_apply _ r).trans ?_)
  refine (atLeast_apply _ _ _ (fun i => constant_bot S_ i)).trans ((rowMax_apply X r).trans ?_)
  refine (congrArg (fun f : Fin 1000000 → EReal => Finset.univ.fold max (⊥ : EReal) f) (funext fun c => ?_)).trans hM
  exact (row_of_lt X r c.val c.isLt).symm

/-- The log-softmax of a row. -/
theorem logSoftmax_row (c : ℕ) (hc : c < 1000000) :
    row (logSoftmax X) r c = row X r c - ((Real.log (total 1000000 (row X r)) : ℝ) : EReal) := by
  obtain ⟨M, hM⟩ := shifted_row X r hf
  have hs : Proper 1000000 (row (shifted X) r) := hf.shift hM
  have hsum : ∑ k ∈ Finset.range 1000000, row (Host.exp (shifted X)) r k = ((total 1000000 (row (shifted X) r) : ℝ) : EReal) := by
    rw [← sum_exp hs]
    refine Finset.sum_congr rfl fun k hk => ?_
    have hk := Finset.mem_range.mp hk
    rw [row_of_lt _ r k hk, row_of_lt _ r k hk]
    exact hexp_apply _ _
  refine Eq.trans ?_ (sub_sub_coe (row X r c) (hf.ne_top c hc) M (Real.log (total 1000000 (row X r))))
  rw [row_of_lt _ r c hc, ← log_total_shift hf hM]
  unfold logSoftmax
  rw [minus_apply]
  refine congrArg₂ (fun p q : EReal => p - q) ((row_of_lt (shifted X) r c hc).symm.trans (hM c hc)) ?_
  refine (along_apply _ r ⟨c, hc⟩).trans ((hlog_apply _ _).trans ?_)
  exact (congrArg Ideal.log ((asColumn_apply _ r).trans ((rowSum_apply _ r).trans hsum))).trans (log_coe _ (total_pos hs))

/-- The first column at which the probabilities of a row are largest is the first at which the logits are. -/
theorem modeRef_first : ∃ c, FirstMax 1000000 (row X r) c ∧ modeRef X (Shape.pair (d := ![32, 1]) r (0 : Fin 1)) = BitVec.ofNat 32 c := by
  -- the probabilities are increasing in the logits
  have hp : ∀ c < 1000000, row (Host.exp (logSoftmax X)) r c
      = ((weight (row X r c - ((Real.log (total 1000000 (row X r)) : ℝ) : EReal)) : ℝ) : EReal) := fun c hc => by
    rw [← exp_eq _ (sub_ne_top _ (hf.ne_top c hc) _), ← logSoftmax_row X r hf c hc, row_of_lt _ r c hc, row_of_lt _ r c hc]
    exact hexp_apply _ _
  have hlt : ∀ i < 1000000, ∀ j < 1000000, row X r i < row X r j → row (Host.exp (logSoftmax X)) r i < row (Host.exp (logSoftmax X)) r j := by
    intro i hi j hj h
    rw [hp i hi, hp j hj, EReal.coe_lt_coe_iff]
    exact weight_lt _ _ (sub_ne_top _ (hf.ne_top j hj) _) (sub_lt_sub_coe _ _ (hf.ne_top j hj) _ h)
  have hle : ∀ i < 1000000, ∀ j < 1000000, row X r i ≤ row X r j → row (Host.exp (logSoftmax X)) r i ≤ row (Host.exp (logSoftmax X)) r j := by
    intro i hi j hj h
    rcases h.lt_or_eq with h | h
    · exact (hlt i hi j hj h).le
    · rw [hp i hi, hp j hj, h]
  obtain ⟨c, hc, e⟩ := argmaxV_first (Host.exp (logSoftmax X)) (ValueIdx.ix1 r) r rfl
    ⟨0, by omega, by rw [hp 0 (by omega)]; exact EReal.bot_lt_coe _⟩
  refine ⟨c, hc.transfer (fun i hi j hj h => ?_) (fun i hi j hj h => ?_), ?_⟩
  · exact not_le.mp fun h' => absurd h (not_lt.mpr (hle j hj i hi h'))
  · exact not_lt.mp fun h' => absurd h (not_le.mpr (hlt j hj i hi h'))
  · unfold modeRef
    exact (asColumn_apply _ r).trans e

end

end Cert.ReferenceIdeal

end
-- ==== Proof.RefTaken.lean ====
/-
  The entry that the reference takes from each row, for an action that is a column; and so its log-probability.
-/
module

public import proofs.«01_k».proof.Proof.RefLog

@[expose] public section

noncomputable section

namespace Cert.ReferenceIdeal

open Idealize.ShloMosaic Cert.First Cert.Logs
open Facts₀

local instance : Facts := Gen.facts

section Words
variable (a : ℕ) (ha : a < 1000000)
include ha

/-- A column isn't negative, -/
theorem column_slt : IntOp.cmpi .slt (BitVec.ofNat 32 a) 0#32 = 0#1 := by
  have h : IntOp.cmpi .slt (BitVec.ofNat 32 a) 0#32 = BitVec.ofBool ((BitVec.ofNat 32 a).slt 0#32) := rfl
  have h0 : (0#32 : BitVec 32).toInt = 0 := by decide
  rw [h, BitVec.slt_eq_decide, toInt_column a ha, h0, decide_eq_false (by omega)]; rfl

theorem column_sge : IntOp.cmpi .sge (BitVec.ofNat 32 a) 0#32 = 1#1 := by
  have h : IntOp.cmpi .sge (BitVec.ofNat 32 a) 0#32 = BitVec.ofBool ((0#32 : BitVec 32).sle (BitVec.ofNat 32 a)) := rfl
  have h0 : (0#32 : BitVec 32).toInt = 0 := by decide
  rw [h, BitVec.sle_eq_decide, toInt_column a ha, h0, decide_eq_true (by omega)]; rfl

/-- nor past the last. -/
theorem column_sle : IntOp.cmpi .sle (BitVec.ofNat 32 a) 999999#32 = 1#1 := by
  have h : IntOp.cmpi .sle (BitVec.ofNat 32 a) 999999#32 = BitVec.ofBool ((BitVec.ofNat 32 a).sle 999999#32) := rfl
  have h0 : (999999#32 : BitVec 32).toInt = 999999 := by decide
  rw [h, BitVec.sle_eq_decide, toInt_column a ha, h0, decide_eq_true (by omega)]; rfl

end Words

/-- The row that the gather reads from is the result's; -/
theorem operand_row (j : S32x1.Idx) (idx : IVec S32x1x1 32) :
    (gather_S32x1000000_S32x1x1_S32x1_n_1_0_0_1_2_11.operandIdx j idx 0).val = (j 0).val := by
  have h : (gather_S32x1000000_S32x1x1_S32x1_n_1_0_0_1_2_11.operandIdx j idx 0).val
      = gather_S32x1000000_S32x1x1_S32x1_n_1_0_0_1_2_11.start j idx 0
        + gather_S32x1000000_S32x1x1_S32x1_n_1_0_0_1_2_11.batchCoord j 0
        + gather_S32x1000000_S32x1x1_S32x1_n_1_0_0_1_2_11.offCoord j 0 := rfl
  rw [h, GatherDims.start_batching _ _ _ _ (by decide), GatherDims.offCoord_eq_zero _ _ _ (by decide), Nat.zero_add, Nat.add_zero]
  unfold GatherDims.batchCoord
  rw [dif_pos (by decide)]
  rfl

/-- the column is the row's start index, held within the array. -/
theorem operand_col (j : S32x1.Idx) (idx : IVec S32x1x1 32) : ∃ y : S32x1x1.Idx, (y 0).val = (j 0).val
    ∧ (gather_S32x1000000_S32x1x1_S32x1_n_1_0_0_1_2_11.operandIdx j idx 1).val = min (idx y).toInt.toNat 999999 := by
  have h : (gather_S32x1000000_S32x1x1_S32x1_n_1_0_0_1_2_11.operandIdx j idx 1).val
      = gather_S32x1000000_S32x1x1_S32x1_n_1_0_0_1_2_11.start j idx 1
        + gather_S32x1000000_S32x1x1_S32x1_n_1_0_0_1_2_11.batchCoord j 1
        + gather_S32x1000000_S32x1x1_S32x1_n_1_0_0_1_2_11.offCoord j 1 := rfl
  rw [h, GatherDims.batchCoord_eq_zero _ _ _ (by decide), GatherDims.offCoord_eq_zero _ _ _ (by decide)]
  unfold GatherDims.start
  rw [dif_pos (by decide)]
  exact ⟨_, rfl, rfl⟩

theorem wrap_apply (A b c : IVec S32x1 32) (i : S32x1.Idx) :
    select (cmpi .slt A b) c A i = Scalar.select (IntOp.cmpi .slt (A i) (b i)) (c i) (A i) := rfl

theorem const_apply (w : BitVec 32) (i : S32x1.Idx) : broadcastInDim S32x1 ![] bcast_S_S32x1 (constantI S_ 32 w) i = w := rfl

theorem bounds_apply (p : IVec S32x1x1 32) (y : S32x1x1.Idx) :
    andi (cmpi .sge p (broadcastInDim S32x1x1 ![] bcast_S_S32x1x1 (constantI S_ 32 0#32)))
      (cmpi .sle p (broadcastInDim S32x1x1 ![0, 1, 2] bcast_S1x1x1_S32x1x1_0_1_2
        (broadcastInDim S1x1x1 ![2] bcast_S1_S1x1x1_2 (constantI S1 32 999999#32)))) y
      = IntOp.andi (IntOp.cmpi .sge (p y) 0#32) (IntOp.cmpi .sle (p y) 999999#32) := rfl

/-- A sum over one column is the entry. -/
theorem columnSum_apply (r : Fin 32) (x : FVec Ideal S32x1 .f32) :
    Host.reduceAdd x (constant S_ .f32 0x00000000#32) reducesTo_S32x1_S32_d1 h_S_ (ValueIdx.ix1 r)
      = (x (Shape.pair (d := ![32, 1]) r (0 : Fin 1)) : EReal) := by
  rw [reduceAdd_eq, zero_first]
  refine (Ideal.hostReduceAdd_single reducesTo_S32x1_S32_d1 (by decide) x 0 _).trans ?_
  rw [zero_add]
  refine (Fin.sum_univ_one _).trans (congrArg x (funext fun b => ?_))
  match b with
  | ⟨0, _⟩ => rfl
  | ⟨1, _⟩ => rfl

variable (A : IVec S32x1 32) (r : Fin 32) (a : ℕ) (ha : a < 1000000)
  (hA : A (Shape.pair (d := ![32, 1]) r (0 : Fin 1)) = BitVec.ofNat 32 a)

include ha hA

/-- An action that is a column names that column. -/
theorem place_apply (y : S32x1x1.Idx) (hy : (y 0).val = r.val) : place A y = BitVec.ofNat 32 a := by
  unfold place
  have h1 : (y 1).val < 1 := (y 1).isLt
  have h2 : (y 2).val < 1 := (y 2).isLt
  refine (shapeCast_apply _ _ y (Shape.pair (d := ![32, 1]) r (0 : Fin 1)) ?_).trans ?_
  · rw [Shape.rowMajor_val_two, Shape.rowMajor_val_three]
    show r.val * 1 + 0 = ((y 0).val * 1 + (y 1).val) * 1 + (y 2).val
    omega
  · rw [wrap_apply, const_apply, hA, column_slt a ha]; rfl

/-- It is inside. -/
theorem inside_apply : inside A (Shape.pair (d := ![32, 1]) r (0 : Fin 1)) = 1#1 := by
  unfold inside
  refine (Host.reduce_eq_fold_single IntOp.andi _ _ reducesTo_S32x1x1_S32x1_d2 (by decide) h_S_ _).trans ?_
  have h : ∀ (s : Finset (Fin 1)) (f : Fin 1 → BitVec 1) (b : BitVec 1), b = 1#1 → (∀ i, f i = 1#1) → s.fold IntOp.andi b f = 1#1 := by
    intro s f b hb hf
    induction s using Finset.cons_induction with
    | empty => exact hb
    | cons a s has ih => rw [Finset.fold_cons, ih, hf]; rfl
  refine h _ _ _ rfl fun k => ?_
  refine (bounds_apply _ _).trans ?_
  rw [place_apply A r a ha hA _ rfl, column_sge a ha, column_sle a ha]; rfl

/-- The entry taken. -/
theorem gather_apply (X : FVec Ideal S32x1000000 .f32) :
    Host.gather gather_S32x1000000_S32x1x1_S32x1_n_1_0_0_1_2_11 X (place A) (Shape.pair (d := ![32, 1]) r (0 : Fin 1)) = row X r a := by
  rw [row_of_lt X r a ha]
  unfold Host.gather
  refine congrArg X (funext fun b => Fin.ext ?_)
  match b with
  | ⟨0, _⟩ => exact operand_row _ _
  | ⟨1, _⟩ =>
    obtain ⟨y, hy, e⟩ := operand_col (Shape.pair (d := ![32, 1]) r (0 : Fin 1)) (place A)
    refine e.trans ?_
    rw [place_apply A r a ha hA y hy, toInt_column a ha]
    show min a 999999 = a
    omega

theorem taken_apply (X : FVec Ideal S32x1000000 .f32) : taken X A (Shape.pair (d := ![32, 1]) r (0 : Fin 1)) = row X r a := by
  have h : ∀ (c : IVec S32x1 1) (p q : FVec Ideal S32x1 .f32) (i : S32x1.Idx), c i = 1#1 → select c p q i = p i := fun c p q i h => by
    show Scalar.select (c i) (p i) (q i) = p i
    rw [h]; rfl
  unfold taken
  exact (h _ _ _ _ (inside_apply A r a ha hA)).trans (gather_apply A r a ha hA X)

/-- The reference's log-probability. -/
theorem logpRef_value (X : FVec Ideal S32x1000000 .f32) (hf : Proper 1000000 (row X r)) :
    logpRef X A (Shape.pair (d := ![32, 1]) r (0 : Fin 1)) = row X r a - ((Real.log (total 1000000 (row X r)) : ℝ) : EReal) := by
  unfold logpRef
  refine (asColumn_apply _ r).trans ?_
  refine (columnSum_apply r _).trans ?_
  exact (taken_apply A r a ha hA (logSoftmax X)).trans (logSoftmax_row X r hf a ha)

end Cert.ReferenceIdeal

end
-- ==== Proof.RefNoise.lean ====
/-
  The reference's random words and noise, entry by entry.
-/
module

public import proofs.«01_k».proof.Proof.Ref
public import proofs.«01_k».proof.Proof.Words

@[expose] public section

noncomputable section

namespace Cert.ReferenceIdeal

open Idealize.ShloMosaic Cert.Words

/-- A pair of arrays of words at one place. -/
def at2 (p : IVec S32x1000000 32 × IVec S32x1000000 32) (x : S32x1000000.Idx) : BitVec 32 × BitVec 32 := (p.1 x, p.2 x)

theorem at2_turn (r l : BitVec 32) (hr : r.toNat < 32) (hl : l.toNat < 32) (p : IVec S32x1000000 32 × IVec S32x1000000 32)
    (x : S32x1000000.Idx) : at2 (turn r l p) x = turn1 r l (at2 p x) := by
  have h : at2 (turn r l p) x = (p.1 x + p.2 x, (p.1 x + p.2 x) ^^^ (IntOp.shli .host (p.2 x) r ||| IntOp.shrui .host (p.2 x) l)) := rfl
  rw [h]
  unfold IntOp.shli IntOp.shrui
  rw [if_pos hr, if_pos hl]; rfl

theorem at2_turnsA (p : IVec S32x1000000 32 × IVec S32x1000000 32) (x : S32x1000000.Idx) : at2 (turnsA p) x = groupA (at2 p x) := by
  unfold turnsA groupA
  rw [at2_turn _ _ (by decide) (by decide), at2_turn _ _ (by decide) (by decide), at2_turn _ _ (by decide) (by decide),
    at2_turn _ _ (by decide) (by decide)]

theorem at2_turnsB (p : IVec S32x1000000 32 × IVec S32x1000000 32) (x : S32x1000000.Idx) : at2 (turnsB p) x = groupB (at2 p x) := by
  unfold turnsB groupB
  rw [at2_turn _ _ (by decide) (by decide), at2_turn _ _ (by decide) (by decide), at2_turn _ _ (by decide) (by decide),
    at2_turn _ _ (by decide) (by decide)]

theorem at2_inject (a b : BitVec 32) (p : IVec S32x1000000 32 × IVec S32x1000000 32) (x : S32x1000000.Idx) :
    at2 (inject a b p) x = key1 a b (at2 p x) := rfl

/-- The first word begins at zero. -/
theorem at2_start (y : IVec S32x1000000 32) (x : S32x1000000.Idx) : at2 (inject 0#32 42#32 (splat 0#32, y)) x = (0#32, y x + 42#32) := by
  have h : at2 (inject 0#32 42#32 (splat 0#32, y)) x = (0#32 + 0#32, y x + 42#32) := rfl
  rw [h, BitVec.add_zero]

theorem words5_apply (x : S32x1000000.Idx) : at2 words5 x = words (flatIndex x) := by
  unfold words5 words4 words3 words2 words1 words
  rw [at2_inject, at2_turnsA, at2_inject, at2_turnsB, at2_inject, at2_turnsA, at2_inject, at2_turnsB, at2_inject, at2_turnsA, at2_start]

theorem xori_at2 (p : IVec S32x1000000 32 × IVec S32x1000000 32) (x : S32x1000000.Idx) : xori p.1 p.2 x = (at2 p x).1 ^^^ (at2 p x).2 := rfl

theorem flatIndex_apply (r : Fin 32) (c : Fin 1000000) :
    flatIndex (Shape.pair (d := ![32, 1000000]) r c) = BitVec.ofNat 32 (1000000 * r.val + c.val) := by
  have h : flatIndex (Shape.pair (d := ![32, 1000000]) r c) = BitVec.ofNat 32 r.val * 1000000#32 + BitVec.ofNat 32 c.val := rfl
  rw [h, BitVec.ofNat_add, BitVec.ofNat_mul, BitVec.mul_comm]

/-- The operations after the words, on any array. -/
theorem bits_apply (v : IVec S32x1000000 32) (x : S32x1000000.Idx) :
    ori (Host.shrui v (splat 9#32)) (splat 1065353216#32) x = (v x >>> 9#32) ||| 1065353216#32 := by
  show IntOp.ori (IntOp.shrui .host (v x) 9#32) 1065353216#32 = _
  unfold IntOp.shrui
  rw [if_pos (by decide)]; rfl

theorem uniform_apply (b : IVec S32x1000000 32) (o t : BitVec 32) (x : S32x1000000.Idx) :
    maximumf (fsplat (F := Ideal) t) (addf (subf (bitcastToFloat .f32 b) (fsplat o)) (fsplat t)) x
      = max (Ideal.ofBits .f32 t) ((Ideal.ofBits .f32 (b x) - Ideal.ofBits .f32 o) + Ideal.ofBits .f32 t) := rfl

theorem negLog_apply (v : FVec Ideal S32x1000000 .f32) (x : S32x1000000.Idx) :
    Host.negf (Host.log (Host.negf (Host.log v))) x = -(Ideal.log (-(Ideal.log (v x)))) := rfl

/-- The noise added at each place is the negative of the one the kernel subtracts. -/
theorem noise_apply (x : S32x1000000.Idx) : noise (F := Ideal) x = -gumbel (word (flatIndex x)) := by
  have hw : xori words5.1 words5.2 x = word (flatIndex x) := by
    rw [xori_at2, words5_apply]; unfold word; exact Eq.refl _
  have hu : uniformV (F := Ideal) x = uniform (word (flatIndex x)) := by
    unfold uniformV
    rw [uniform_apply, bits_apply, hw]
    exact max_tiny (word (flatIndex x))
  unfold noise gumbel
  rw [negLog_apply, hu, zero_sub]

end Cert.ReferenceIdeal

end
-- ==== Proof.Given.lean ====
/-
  What the precondition says, entry by entry: each row is below +∞ and not all -∞, and every action is a column.
-/
module

public import proofs.«01_k».proof.Pre_finite_row_maxima_and_actions_in_range
public import Idealize.ShloMosaic.PureOps.Ideal.Laws
public import Idealize.ShloMosaic.Lib.Pipeline.Value
public import Idealize.ShloMosaic.Lib.ValueLayoutCasts
public import proofs.«01_k».proof.Proof.Logs

@[expose] public section

noncomputable section

namespace Cert.Pre_finite_row_maxima_and_actions_in_range

open Idealize.ShloMosaic Cert.Logs
open Facts

theorem facts : Facts := ⟨by decide, by decide, by decide, by decide⟩

local instance : Facts := facts

theorem and_one {a b : BitVec 1} (h : IntOp.andi a b = 1#1) : a = 1#1 ∧ b = 1#1 := by
  revert a b; decide

theorem ofBool_one {p : Bool} (h : BitVec.ofBool p = 1#1) : p = true := by
  cases p
  · exact absurd h (by decide)
  · rfl

/-- A value above -∞ and below +∞, as the comparisons say it. -/
theorem between_of (y lo hi : EReal) (hlo : lo = ⊥) (hhi : hi = ⊤) (h1 : FloatOps.cmpf (F := Ideal) (φ := .f32) .ogt y lo = 1#1)
    (h2 : FloatOps.cmpf (F := Ideal) (φ := .f32) .olt y hi = 1#1) : ⊥ < y ∧ y < ⊤ := by
  subst hlo hhi
  have e1 : FloatOps.cmpf (F := Ideal) (φ := .f32) .ogt y (⊥ : EReal) = BitVec.ofBool (decide (⊥ < y)) := rfl
  have e2 : FloatOps.cmpf (F := Ideal) (φ := .f32) .olt y (⊤ : EReal) = BitVec.ofBool (decide (y < ⊤)) := rfl
  exact ⟨of_decide_eq_true (ofBool_one (e1.symm.trans h1)), of_decide_eq_true (ofBool_one (e2.symm.trans h2))⟩

/-- A word that is at least 0 and less than 1000000, read signed, is a column. -/
theorem column_of (w : BitVec 32) (h1 : IntOp.cmpi .sge w 0#32 = 1#1) (h2 : IntOp.cmpi .slt w 1000000#32 = 1#1) :
    ∃ a < 1000000, w = BitVec.ofNat 32 a := by
  have e1 : IntOp.cmpi .sge w 0#32 = BitVec.ofBool ((0#32 : BitVec 32).sle w) := rfl
  have e2 : IntOp.cmpi .slt w 1000000#32 = BitVec.ofBool (w.slt 1000000#32) := rfl
  have h0 : (0#32 : BitVec 32).toInt = 0 := by decide
  have hm : (1000000#32 : BitVec 32).toInt = 1000000 := by decide
  have l1 := ofBool_one (e1.symm.trans h1)
  have l2 := ofBool_one (e2.symm.trans h2)
  rw [BitVec.sle_eq_decide, h0, decide_eq_true_eq] at l1
  rw [BitVec.slt_eq_decide, hm, decide_eq_true_eq] at l2
  refine ⟨w.toInt.toNat, by omega, BitVec.eq_of_toInt_eq ?_⟩
  rw [BitVec.toInt_ofNat', Int.bmod_def]
  split <;> omega

/-- The condition on a row, over any arrays. -/
theorem bounds_apply (t lo hi : FVec Ideal S32x1 .f32) (A : IVec S32x1 32) (i : S32x1.Idx) :
    andi (andi (cmpf .ogt t lo) (cmpf .olt t hi))
        (andi (cmpi .sge A (broadcastInDim S32x1 ![] bcast_S_S32x1 (constantI S_ 32 0#32)))
          (cmpi .slt A (broadcastInDim S32x1 ![] bcast_S_S32x1 (constantI S_ 32 1000000#32)))) i
      = IntOp.andi
          (IntOp.andi (FloatOps.cmpf (F := Ideal) (φ := .f32) .ogt (t i) (lo i)) (FloatOps.cmpf (F := Ideal) (φ := .f32) .olt (t i) (hi i)))
          (IntOp.andi (IntOp.cmpi .sge (A i) 0#32) (IntOp.cmpi .slt (A i) 1000000#32)) := rfl

theorem splat_apply (w : BitVec 32) (i : S32x1.Idx) :
    broadcastInDim S32x1 ![] bcast_S_S32x1 (constant (F := Ideal) S_ .f32 w) i = Ideal.ofBits .f32 w := rfl

/-- Each row's largest logit. -/
def tops (L : FVec Ideal S32x1000000 .f32) : FVec Ideal S32 .f32 :=
  Host.reduce FloatOps.maximumf L (constant S_ .f32 0xFF800000#32) reducesTo_S32x1000000_S32_d1 h_S_

theorem rowReduces : S32x1000000.Reduces [1] S32 := by decide

theorem row_lift (r : Fin 32) (c : Fin 1000000) : rowReduces.lift (ValueIdx.ix1 r) c = Shape.pair (d := ![32, 1000000]) r c := by
  funext a
  match a with
  | ⟨0, _⟩ => rfl
  | ⟨1, _⟩ => rfl

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem constant_apply (w : BitVec 32) (i : S_.Idx) : constant (F := Ideal) S_ .f32 w i = Ideal.ofBits .f32 w := rfl

theorem tops_apply (L : FVec Ideal S32x1000000 .f32) (r : Fin 32) : tops L (ValueIdx.ix1 r)
    = (Finset.univ : Finset (Fin 1000000)).fold max (⊥ : EReal) (fun c => L (Shape.pair (d := ![32, 1000000]) r c)) := by
  unfold tops
  refine (Host.reduce_eq_fold_single _ L _ reducesTo_S32x1000000_S32_d1 rowReduces h_S_ _).trans ?_
  exact congrArg₂ (fun b f => Finset.fold max b f Finset.univ) ((constant_apply _ _).trans ofBits_bot)
    (funext fun c => congrArg L (row_lift r c))

theorem column_apply {α : Type} (x : S32.Idx → α) (r : Fin 32) :
    broadcastInDim S32x1 ![0] bcast_S32_S32x1_0 x (Shape.pair (d := ![32, 1]) r (0 : Fin 1)) = x (ValueIdx.ix1 r) :=
  broadcastInDim_apply _ _ _ _ _ fun a => by
    match a with
    | ⟨0, _⟩ => rfl

theorem fn_eq (L : FVec Ideal S32x1000000 .f32) (A : IVec S32x1 32) : fn L A
    = andi (andi (cmpf .ogt (broadcastInDim S32x1 ![0] bcast_S32_S32x1_0 (tops L))
            (broadcastInDim S32x1 ![] bcast_S_S32x1 (constant S_ .f32 0xFF800000#32)))
          (cmpf .olt (broadcastInDim S32x1 ![0] bcast_S32_S32x1_0 (tops L))
            (broadcastInDim S32x1 ![] bcast_S_S32x1 (constant S_ .f32 0x7F800000#32))))
        (andi (cmpi .sge A (broadcastInDim S32x1 ![] bcast_S_S32x1 (constantI S_ 32 0#32)))
          (cmpi .slt A (broadcastInDim S32x1 ![] bcast_S_S32x1 (constantI S_ 32 1000000#32)))) := rfl

/-- The precondition of a row: `f` its entries. -/
theorem given (L : FVec Ideal S32x1000000 .f32) (A : IVec S32x1 32) (h : fn L A = fun _ => 1#1) (r : Fin 32) (f : ℕ → EReal)
    (hf : ∀ c : Fin 1000000, f c.val = L (Shape.pair (d := ![32, 1000000]) r c)) :
    Proper 1000000 f ∧ ∃ a < 1000000, A (Shape.pair (d := ![32, 1]) r (0 : Fin 1)) = BitVec.ofNat 32 a := by
  have h := congrFun ((fn_eq L A).symm.trans h) (Shape.pair (d := ![32, 1]) r (0 : Fin 1))
  obtain ⟨h12, h34⟩ := and_one ((bounds_apply _ _ _ _ _).symm.trans h)
  obtain ⟨h1, h2⟩ := and_one h12
  obtain ⟨h3, h4⟩ := and_one h34
  obtain ⟨l1, l2⟩ := between_of _ _ _ ((splat_apply _ _).trans ofBits_bot) ((splat_apply _ _).trans ofBits_top) h1 h2
  have e := ((column_apply (tops L) r).trans (tops_apply L r)).trans
    (congrArg (fun g : Fin 1000000 → EReal => Finset.univ.fold max (⊥ : EReal) g) (funext fun c => (hf c).symm))
  exact ⟨proper_of_fold f (e ▸ l1) (e ▸ l2), column_of _ h3 h4⟩

end Cert.Pre_finite_row_maxima_and_actions_in_range

end
-- ==== Proof.Results.lean ====
/-
  For rows of logits below +∞ and not all -∞, and actions that are columns, the kernel's three results are the reference's.
-/
module

public import proofs.«01_k».proof.Proof.KernelResults
public import proofs.«01_k».proof.Proof.RefTaken
public import proofs.«01_k».proof.Proof.RefNoise
public import proofs.«01_k».proof.Proof.Given

@[expose] public section

noncomputable section

namespace Cert.Results

open Idealize.ShloMosaic Cert.First Cert.Words Cert.Logs
open Cert.KernelIdeal (S32x1000000 S32x1 rowOf rowOf_of_lt perturbed perturbed_bot_lt cntOf sampleOut logpOut modeOut)
open Cert.ReferenceIdeal (row row_of_lt sampleRef logpRef modeRef noise)

variable (L : FVec Ideal S32x1000000 .f32) (A : IVec S32x1 32)

/-- A column's place is its row's. -/
theorem ext_rows {α : Type} (f g : S32x1.Idx → α)
    (h : ∀ r : Fin 32, f (Shape.pair (d := ![32, 1]) r (0 : Fin 1)) = g (Shape.pair (d := ![32, 1]) r (0 : Fin 1))) : f = g := by
  funext i
  have e : i = Shape.pair (d := ![32, 1]) (i 0) (0 : Fin 1) := by
    refine (Shape.pair_eta i).symm.trans (congrArg (Shape.pair (d := ![32, 1]) (i 0)) (Fin.ext ?_))
    have h1 : (i 1).val < 1 := (i 1).isLt
    exact Nat.lt_one_iff.mp h1
  rw [e]
  exact h (i 0)

/-- Both sides' rows. -/
theorem row_eq (r : Fin 32) : row L r = rowOf L r := rfl

theorem added_apply (X N : FVec Ideal S32x1000000 .f32) (i : S32x1000000.Idx) : addf X N i = (X i + N i : EReal) := rfl

/-- The reference adds what the kernel takes off. -/
theorem noisy_row (r : Fin 32) (c : ℕ) (hc : c < 1000000) : row (addf L noise) r c = perturbed L r c := by
  have hw : Cert.ReferenceIdeal.flatIndex (Shape.pair (d := ![32, 1000000]) r (⟨c, hc⟩ : Fin 1000000)) = cntOf r c :=
    Cert.ReferenceIdeal.flatIndex_apply r ⟨c, hc⟩
  rw [row_of_lt _ r c hc]
  unfold perturbed
  rw [rowOf_of_lt L r c hc, ← hw, sub_eq_add_neg]
  refine (added_apply L noise _).trans (congrArg (fun n : EReal => (_ : EReal) + n) ?_)
  exact Cert.ReferenceIdeal.noise_apply _

section
variable (hL : ∀ r : Fin 32, Proper 1000000 (rowOf L r))
include hL

theorem sample_eq : sampleOut L A = sampleRef L := by
  refine ext_rows _ _ fun r => ?_
  obtain ⟨c, hc, e⟩ := Cert.KernelIdeal.sampleOut_first L A r (hL r)
  obtain ⟨k, hk, hb⟩ := perturbed_bot_lt L r (hL r)
  obtain ⟨d, hd, e'⟩ := Cert.ReferenceIdeal.argmaxV_first (addf L noise) (ValueIdx.ix1 r) r rfl ⟨k, hk, by rw [noisy_row L r k hk]; exact hb⟩
  rw [e, hc.unique (hd.congr fun i hi => noisy_row L r i hi)]
  unfold sampleRef
  exact (((Cert.ReferenceIdeal.asColumn_apply _ r).trans e')).symm

theorem mode_eq : modeOut L A = modeRef L := by
  refine ext_rows _ _ fun r => ?_
  obtain ⟨c, hc, e⟩ := Cert.KernelIdeal.modeOut_first L A r (hL r)
  obtain ⟨d, hd, e'⟩ := Cert.ReferenceIdeal.modeRef_first L r (hL r)
  rw [e, hc.unique hd]
  exact e'.symm

theorem logp_eq (hA : ∀ r : Fin 32, ∃ a < 1000000, A (Shape.pair (d := ![32, 1]) r (0 : Fin 1)) = BitVec.ofNat 32 a) :
    logpOut L A = logpRef L A := by
  refine ext_rows _ _ fun r => ?_
  obtain ⟨a, ha, hA⟩ := hA r
  exact (Cert.KernelIdeal.logpOut_value L A r (hL r) a ha hA).trans (Cert.ReferenceIdeal.logpRef_value A r a ha hA L (hL r)).symm

end

end Cert.Results

end
-- ==== Proof.lean ====
/-
  The proof of `Cert.Claim`: the three frames, the idealization (it rewrites no operation), and that the kernel's three results
  are the reference's.
-/
module

public import proofs.«01_k».proof.Defs
public import proofs.«01_k».proof.Proof.Run
public import proofs.«01_k».proof.Proof.FrameBits
public import proofs.«01_k».proof.Proof.RefRun
public import proofs.«01_k».proof.Proof.Results

@[expose] public section

noncomputable section

namespace Cert.Proof

open Idealize.ShloMosaic Idealize.SL.Sem

local instance : Cert.KernelIdeal.Facts := Cert.KernelIdeal.Gen.facts
local instance : Cert.ReferenceIdeal.Facts := Cert.ReferenceIdeal.Gen.facts
local instance : Cert.Pre_finite_row_maxima_and_actions_in_range.Facts := Cert.Pre_finite_row_maxima_and_actions_in_range.facts

/-- Run on the same logits and actions, the two end with the same three results: the kernel's are those of `KernelIdeal.run_values`,
    the reference's those of `ReferenceIdeal.run_values`, and `Results` equates them under the precondition. -/
theorem algebraic : Cert.algebraic_KernelIdeal_ReferenceIdeal_pre_finite_row_maxima_and_actions_in_range := by
  intro m g m' g' hpre hargs
  have hgiven := fun c r => Cert.Pre_finite_row_maxima_and_actions_in_range.given _ _ (hpre c) r
    (Cert.KernelIdeal.rowOf (Cert.KernelIdeal.logits m c) r) (fun k => Cert.KernelIdeal.rowOf_of_lt _ r k.val k.isLt)
  have hL := fun c r => (hgiven c r).1
  have hA := fun c r => (hgiven c r).2
  refine ⟨fun c => Cert.KernelIdeal.sampleOut (Cert.KernelIdeal.logits m c) (Cert.KernelIdeal.actions m c),
    fun c => Cert.KernelIdeal.logpOut (Cert.KernelIdeal.logits m c) (Cert.KernelIdeal.actions m c),
    fun c => Cert.KernelIdeal.modeOut (Cert.KernelIdeal.logits m c) (Cert.KernelIdeal.actions m c), ?_, ?_⟩
  · exact (θ_run _ _ _).mono (fun r h => h.1) (Cert.KernelIdeal.run_values m g)
  · refine (θ_run _ _ _).mono (fun r h c => ?_) (Cert.ReferenceIdeal.run_values m' g')
    obtain ⟨h1, h2, h3, h4, h5⟩ := h.1 c
    obtain ⟨e0, e1⟩ := hargs c
    refine ⟨h1.trans ?_, h2.trans ?_, h3.trans ?_, h4, h5⟩
    · exact (congrArg Cert.ReferenceIdeal.sampleRef e0).trans (Cert.Results.sample_eq _ _ (hL c)).symm
    · exact (congrArg₂ Cert.ReferenceIdeal.logpRef e0 e1).trans (Cert.Results.logp_eq _ _ (hL c) (hA c)).symm
    · exact (congrArg Cert.ReferenceIdeal.modeRef e0).trans (Cert.Results.mode_eq _ (Cert.KernelIdeal.actions m c) (hL c)).symm

theorem claim : Cert.Claim :=
  ⟨Cert.Kernel.Gen.facts, Cert.KernelIdeal.Gen.facts, Cert.ReferenceIdeal.Gen.facts, Cert.Pre_finite_row_maxima_and_actions_in_range.facts,
    fun m g _ => Cert.Kernel.same_frame.mpr (fun m g => Cert.KernelIdeal.frame_all m g) m g,
    fun m g _ => Cert.KernelIdeal.frame_all m g,
    fun m g _ => Cert.KernelIdeal.frame_all m g,
    fun m g _ => Cert.ReferenceIdeal.frame_all m g,
    fun m g _ => Cert.ReferenceIdeal.frame_all m g,
    trivial,
    algebraic⟩

end Cert.Proof

end
